-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S5000x81x28x28 : Shape := ⟨4, ![5000, 81, 28, 28]⟩
abbrev S5000 : Shape := ⟨1, ![5000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S5000x81x28x28 .f32) (main_arg1 : IVec S5000 32) : IVec S_ 1 :=
  let main_c : IVec S_ 32 := constantI S_ 32 0#32
  let main_v0 : IVec S5000 32 := broadcastInDim S5000 ![] bcast_S_S5000 main_c
  let main_v1 : IVec S5000 1 := cmpi .sge main_arg1 main_v0
  let main_c_0 : IVec S_ 32 := constantI S_ 32 81#32
  let main_v2 : IVec S5000 32 := broadcastInDim S5000 ![] bcast_S_S5000 main_c_0
  let main_v3 : IVec S5000 1 := cmpi .slt main_arg1 main_v2
  let main_v4 : IVec S5000 1 := andi main_v1 main_v3
  let main_c_1 : IVec S_ 1 := constantI S_ 1 1#1
  let main_v5 : IVec S_ 1 := (fun x v => Host.reduce IntOp.andi x v reducesTo_S5000_S_d0 h_S_) main_v4 main_c_1
  main_v5
-- ==== Kernel.lean ====
abbrev S5000x81x28x28 : Shape := ⟨4, ![5000, 81, 28, 28]⟩
abbrev S5000 : Shape := ⟨1, ![5000]⟩
abbrev S28x28x81x5000 : Shape := ⟨4, ![28, 28, 81, 5000]⟩
abbrev S784x81x5000 : Shape := ⟨3, ![784, 81, 5000]⟩
abbrev S784x4992 : Shape := ⟨2, ![784, 4992]⟩
abbrev S128 : Shape := ⟨1, ![128]⟩
abbrev S88x128 : Shape := ⟨2, ![88, 128]⟩
abbrev S112x128 : Shape := ⟨2, ![112, 128]⟩
abbrev S_ : Shape := ⟨0, ![]⟩
abbrev S16 : Shape := ⟨1, ![16]⟩
abbrev S81x128 : Shape := ⟨2, ![81, 128]⟩
abbrev S1x81x128 : Shape := ⟨3, ![1, 81, 128]⟩
abbrev S1x16 : Shape := ⟨2, ![1, 16]⟩
abbrev S28x28x4992 : Shape := ⟨3, ![28, 28, 4992]⟩
abbrev S4992x28x28 : Shape := ⟨3, ![4992, 28, 28]⟩
abbrev S8x81x28x28 : Shape := ⟨4, ![8, 81, 28, 28]⟩
abbrev S8 : Shape := ⟨1, ![8]⟩
abbrev S8x1x1x1 : Shape := ⟨4, ![8, 1, 1, 1]⟩
abbrev S8x1x1 : Shape := ⟨3, ![8, 1, 1]⟩
abbrev S1 : Shape := ⟨1, ![1]⟩
abbrev S1x1x1 : Shape := ⟨3, ![1, 1, 1]⟩
abbrev S8x1 : Shape := ⟨2, ![8, 1]⟩
abbrev S8x1x28x28 : Shape := ⟨4, ![8, 1, 28, 28]⟩
abbrev S8x28x28 : Shape := ⟨3, ![8, 28, 28]⟩
abbrev S5000x28x28 : Shape := ⟨3, ![5000, 28, 28]⟩
abbrev S5000x1x28x28 : Shape := ⟨4, ![5000, 1, 28, 28]⟩

abbrev nBuf : Table → Nat
  | .hbm => 44
  | .local .scVector .vmem => 4
  | _ => 0

abbrev bufTy : (tb : Table) → Fin (nBuf tb) → BufTy
  | .hbm, ⟨0, _⟩ => ⟨S5000x81x28x28, .f32⟩
  | .hbm, ⟨1, _⟩ => ⟨S5000, .i32⟩
  | .hbm, ⟨2, _⟩ => ⟨S28x28x81x5000, .f32⟩
  | .hbm, ⟨3, _⟩ => ⟨S784x81x5000, .f32⟩
  | .hbm, ⟨4, _⟩ => ⟨S784x4992, .f32⟩
  | .hbm, ⟨5, _⟩ => ⟨S28x28x4992, .f32⟩
  | .hbm, ⟨6, _⟩ => ⟨S4992x28x28, .f32⟩
  | .hbm, ⟨7, _⟩ => ⟨S8x81x28x28, .f32⟩
  | .hbm, ⟨8, _⟩ => ⟨S8, .i32⟩
  | .hbm, ⟨9, _⟩ => ⟨S8x1x1x1, .i32⟩
  | .hbm, ⟨10, _⟩ => ⟨S_, .i32⟩
  | .hbm, ⟨11, _⟩ => ⟨S8x1x1x1, .i32⟩
  | .hbm, ⟨12, _⟩ => ⟨S8x1x1x1, .i1⟩
  | .hbm, ⟨13, _⟩ => ⟨S_, .i32⟩
  | .hbm, ⟨14, _⟩ => ⟨S8x1x1x1, .i32⟩
  | .hbm, ⟨15, _⟩ => ⟨S8x1x1x1, .i32⟩
  | .hbm, ⟨16, _⟩ => ⟨S8x1x1x1, .i32⟩
  | .hbm, ⟨17, _⟩ => ⟨S8x1x1, .i32⟩
  | .hbm, ⟨18, _⟩ => ⟨S1, .i32⟩
  | .hbm, ⟨19, _⟩ => ⟨S_, .i32⟩
  | .hbm, ⟨20, _⟩ => ⟨S8x1x1, .i32⟩
  | .hbm, ⟨21, _⟩ => ⟨S8x1x1, .i1⟩
  | .hbm, ⟨22, _⟩ => ⟨S1x1x1, .i32⟩
  | .hbm, ⟨23, _⟩ => ⟨S8x1x1, .i32⟩
  | .hbm, ⟨24, _⟩ => ⟨S8x1x1, .i1⟩
  | .hbm, ⟨25, _⟩ => ⟨S8x1x1, .i1⟩
  | .hbm, ⟨26, _⟩ => ⟨S_, .i1⟩
  | .hbm, ⟨27, _⟩ => ⟨S8x1, .i1⟩
  | .hbm, ⟨28, _⟩ => ⟨S8x1x28x28, .f32⟩
  | .hbm, ⟨29, _⟩ => ⟨S8x1x28x28, .i1⟩
  | .hbm, ⟨30, _⟩ => ⟨S_, .f32⟩
  | .hbm, ⟨31, _⟩ => ⟨S8x1x28x28, .f32⟩
  | .hbm, ⟨32, _⟩ => ⟨S8x1x28x28, .f32⟩
  | .hbm, ⟨33, _⟩ => ⟨S8x28x28, .f32⟩
  | .hbm, ⟨34, _⟩ => ⟨S8x28x28, .f32⟩
  | .hbm, ⟨35, _⟩ => ⟨S8x28x28, .f32⟩
  | .hbm, ⟨36, _⟩ => ⟨S_, .f32⟩
  | .hbm, ⟨37, _⟩ => ⟨S8x28x28, .f32⟩
  | .hbm, ⟨38, _⟩ => ⟨S8x28x28, .f32⟩
  | .hbm, ⟨39, _⟩ => ⟨S_, .f32⟩
  | .hbm, ⟨40, _⟩ => ⟨S8x28x28, .f32⟩
  | .hbm, ⟨41, _⟩ => ⟨S8x28x28, .f32⟩
  | .hbm, ⟨42, _⟩ => ⟨S5000x28x28, .f32⟩
  | .hbm, ⟨43, _⟩ => ⟨S5000x1x28x28, .f32⟩
  | .local .scVector .vmem, ⟨0, _⟩ => ⟨S128, .i32⟩
  | .local .scVector .vmem, ⟨1, _⟩ => ⟨S88x128, .f32⟩
  | .local .scVector .vmem, ⟨2, _⟩ => ⟨S88x128, .f32⟩
  | .local .scVector .vmem, ⟨3, _⟩ => ⟨S112x128, .f32⟩
  | _, _ => ⟨S5000x81x28x28, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c9_i32 : BitVec 32 := 9#32
  let v3 : BitVec 32 := Scalar.addi c0_i32_0 c9_i32
  let c1_i32 : BitVec 32 := 1#32
  ⟨c0_i32_0, v3, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c273_i32 : BitVec 32 := 273#32
  let v6 : BitVec 1 := Scalar.cmpi .slt v5 c273_i32
  let v7 : BitVec 32 := Scalar.extui v6
  let c0_i32_2 : BitVec 32 := 0#32
  let v8 : BitVec 1 := Scalar.cmpi .ne v7 c0_i32_2
  v8

def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  v36
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c0_i32_9 : BitVec 32 := 0#32
  let v20 : BitVec 1 := Scalar.cmpi .sgt v5 c0_i32_9
  let v21 : BitVec 32 := Scalar.extui v20
  let c0_i32_10 : BitVec 32 := 0#32
  let v22 : BitVec 1 := Scalar.cmpi .slt v5 c0_i32_10
  let v23 : BitVec 32 := Scalar.extui v22
  let v24 : BitVec 32 := Scalar.subi v21 v23
  let c39_i32_8 : BitVec 32 := 39#32
  let c0_i32_11 : BitVec 32 := 0#32
  let v25 : BitVec 1 := Scalar.cmpi .sgt c39_i32_8 c0_i32_11
  let v26 : BitVec 32 := Scalar.extui v25
  let c0_i32_12 : BitVec 32 := 0#32
  let v27 : BitVec 1 := Scalar.cmpi .slt c39_i32_8 c0_i32_12
  let v28 : BitVec 32 := Scalar.extui v27
  let v29 : BitVec 32 := Scalar.subi v26 v28
  let v30 : BitVec 1 := Scalar.cmpi .ne v24 v29
  let v31 : BitVec 32 := Scalar.remsi v5 c39_i32_8
  let c0_i32_13 : BitVec 32 := 0#32
  let v32 : BitVec 1 := Scalar.cmpi .ne v31 c0_i32_13
  let v33 : BitVec 1 := Scalar.andi v30 v32
  let v19 : BitVec 32 := Scalar.divsi v5 c39_i32_8
  let c1_i32_14 : BitVec 32 := 1#32
  let v34 : BitVec 32 := Scalar.subi v19 c1_i32_14
  let v35 : BitVec 32 := Scalar.select v33 v34 v19
  let c112_i32 : BitVec 32 := 112#32
  let v38 : BitVec 32 := Scalar.muli v35 c112_i32
  v38
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  let v37 : BitVec 32 := v36
  ![v37.toNat]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c0_i32_9 : BitVec 32 := 0#32
  let v20 : BitVec 1 := Scalar.cmpi .sgt v5 c0_i32_9
  let v21 : BitVec 32 := Scalar.extui v20
  let c0_i32_10 : BitVec 32 := 0#32
  let v22 : BitVec 1 := Scalar.cmpi .slt v5 c0_i32_10
  let v23 : BitVec 32 := Scalar.extui v22
  let v24 : BitVec 32 := Scalar.subi v21 v23
  let c39_i32_8 : BitVec 32 := 39#32
  let c0_i32_11 : BitVec 32 := 0#32
  let v25 : BitVec 1 := Scalar.cmpi .sgt c39_i32_8 c0_i32_11
  let v26 : BitVec 32 := Scalar.extui v25
  let c0_i32_12 : BitVec 32 := 0#32
  let v27 : BitVec 1 := Scalar.cmpi .slt c39_i32_8 c0_i32_12
  let v28 : BitVec 32 := Scalar.extui v27
  let v29 : BitVec 32 := Scalar.subi v26 v28
  let v30 : BitVec 1 := Scalar.cmpi .ne v24 v29
  let v31 : BitVec 32 := Scalar.remsi v5 c39_i32_8
  let c0_i32_13 : BitVec 32 := 0#32
  let v32 : BitVec 1 := Scalar.cmpi .ne v31 c0_i32_13
  let v33 : BitVec 1 := Scalar.andi v30 v32
  let v19 : BitVec 32 := Scalar.divsi v5 c39_i32_8
  let c1_i32_14 : BitVec 32 := 1#32
  let v34 : BitVec 32 := Scalar.subi v19 c1_i32_14
  let v35 : BitVec 32 := Scalar.select v33 v34 v19
  let c112_i32 : BitVec 32 := 112#32
  let v38 : BitVec 32 := Scalar.muli v35 c112_i32
  let v39 : BitVec 32 := v38
  let c0_i32_15 : BitVec 32 := 0#32
  let v40 : BitVec 32 := Scalar.addi v39 c0_i32_15
  let c0_i32_18 : BitVec 32 := 0#32
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  let v37 : BitVec 32 := v36
  ![v40.toNat, 0, v37.toNat]
@[reducible] def k0_t2_loop : Scf.Loop 32 :=
  let c0_i32_23 : BitVec 32 := 0#32
  let c112_i32_24 : BitVec 32 := 112#32
  let v47 : BitVec 32 := Scalar.addi c0_i32_23 c112_i32_24
  let c1_i32_25 : BitVec 32 := 1#32
  ⟨c0_i32_23, v47, c1_i32_25⟩
def k0_cond2 (k0_t2 : Fin k0_t2_loop.trips) : BitVec 1 :=
  let c0_i32_23 : BitVec 32 := 0#32
  let c1_i32_25 : BitVec 32 := 1#32
  let arg12 : BitVec 32 := Scf.iv c0_i32_23 c1_i32_25 k0_t2
  let c2_i32_31 : BitVec 32 := 2#32
  let c0_i32_32 : BitVec 32 := 0#32
  let v52 : BitVec 1 := Scalar.cmpi .eq c2_i32_31 c0_i32_32
  let c1_i32_33 : BitVec 32 := 1#32
  let v53 : BitVec 32 := Scalar.select v52 c1_i32_33 c2_i32_31
  let v54 : BitVec 32 := Scalar.remsi arg12 v53
  let c0_i32_35 : BitVec 32 := 0#32
  let v56 : BitVec 1 := Scalar.cmpi .slt v54 c0_i32_35
  let c0_i32_36 : BitVec 32 := 0#32
  let v57 : BitVec 1 := Scalar.cmpi .slt v53 c0_i32_36
  let v58 : BitVec 1 := Scalar.xori v56 v57
  let c0_i32_34 : BitVec 32 := 0#32
  let v55 : BitVec 1 := Scalar.cmpi .ne v54 c0_i32_34
  let v59 : BitVec 1 := Scalar.andi v58 v55
  let v60 : BitVec 32 := Scalar.addi v54 v53
  let v61 : BitVec 32 := Scalar.select v59 v60 v54
  let c0_i32_37 : BitVec 32 := 0#32
  let v62 : BitVec 1 := Scalar.cmpi .eq v61 c0_i32_37
  let v63 : BitVec 32 := Scalar.extui v62
  let c0_i32_38 : BitVec 32 := 0#32
  let v64 : BitVec 1 := Scalar.cmpi .ne v63 c0_i32_38
  v64

def k0_cond3 (k0_t2 : Fin k0_t2_loop.trips) : BitVec 1 :=
  let c0_i32_23 : BitVec 32 := 0#32
  let c1_i32_25 : BitVec 32 := 1#32
  let arg12 : BitVec 32 := Scf.iv c0_i32_23 c1_i32_25 k0_t2
  let c1_i32_56 : BitVec 32 := 1#32
  let v84 : BitVec 32 := Scalar.addi arg12 c1_i32_56
  let c112_i32_57 : BitVec 32 := 112#32
  let v85 : BitVec 1 := Scalar.cmpi .slt v84 c112_i32_57
  let v86 : BitVec 32 := Scalar.extui v85
  let c0_i32_58 : BitVec 32 := 0#32
  let v87 : BitVec 1 := Scalar.cmpi .ne v86 c0_i32_58
  v87

def k0_off3 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c0_i32_9 : BitVec 32 := 0#32
  let v20 : BitVec 1 := Scalar.cmpi .sgt v5 c0_i32_9
  let v21 : BitVec 32 := Scalar.extui v20
  let c0_i32_10 : BitVec 32 := 0#32
  let v22 : BitVec 1 := Scalar.cmpi .slt v5 c0_i32_10
  let v23 : BitVec 32 := Scalar.extui v22
  let v24 : BitVec 32 := Scalar.subi v21 v23
  let c39_i32_8 : BitVec 32 := 39#32
  let c0_i32_11 : BitVec 32 := 0#32
  let v25 : BitVec 1 := Scalar.cmpi .sgt c39_i32_8 c0_i32_11
  let v26 : BitVec 32 := Scalar.extui v25
  let c0_i32_12 : BitVec 32 := 0#32
  let v27 : BitVec 1 := Scalar.cmpi .slt c39_i32_8 c0_i32_12
  let v28 : BitVec 32 := Scalar.extui v27
  let v29 : BitVec 32 := Scalar.subi v26 v28
  let v30 : BitVec 1 := Scalar.cmpi .ne v24 v29
  let v31 : BitVec 32 := Scalar.remsi v5 c39_i32_8
  let c0_i32_13 : BitVec 32 := 0#32
  let v32 : BitVec 1 := Scalar.cmpi .ne v31 c0_i32_13
  let v33 : BitVec 1 := Scalar.andi v30 v32
  let v19 : BitVec 32 := Scalar.divsi v5 c39_i32_8
  let c1_i32_14 : BitVec 32 := 1#32
  let v34 : BitVec 32 := Scalar.subi v19 c1_i32_14
  let v35 : BitVec 32 := Scalar.select v33 v34 v19
  let c112_i32 : BitVec 32 := 112#32
  let v38 : BitVec 32 := Scalar.muli v35 c112_i32
  let v39 : BitVec 32 := v38
  let c0_i32_23 : BitVec 32 := 0#32
  let c1_i32_25 : BitVec 32 := 1#32
  let arg12 : BitVec 32 := Scf.iv c0_i32_23 c1_i32_25 k0_t2
  let c1_i32_93 : BitVec 32 := 1#32
  let v192 : BitVec 32 := Scalar.addi arg12 c1_i32_93
  let v193 : BitVec 32 := Scalar.addi v39 v192
  let c0_i32_96 : BitVec 32 := 0#32
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  let v37 : BitVec 32 := v36
  ![v193.toNat, 0, v37.toNat]

def k0_chk1 (i : grid0.Coords) (k0_t1 : Fin k0_t1_loop.trips) (k0_t2 : Fin k0_t2_loop.trips) (v88 : IVec S16 32) (v90 : IVec S16 32) : Prop :=
  (∀ (k0_h1 : k0_cond1 i k0_t1 = 1#1), ∀ (k0_h2 : k0_cond2 k0_t2 = 1#1), ∀ a x, ((![v88, v90] : Fin 2 → IVec S16 32) a x).toNat < S88x128.size a)
theorem k0_idx1_inb : ∀ (i : grid0.Coords) (k0_t1 : Fin k0_t1_loop.trips) (k0_t2 : Fin k0_t2_loop.trips) (v88 : IVec S16 32) (v90 : IVec S16 32) (k0_hw1 : k0_chk1 i k0_t1 k0_t2 v88 v90), ∀ (k0_h1 : k0_cond1 i k0_t1 = 1#1), ∀ (k0_h2 : k0_cond2 k0_t2 = 1#1), ∀ a x, ((![v88, v90] : Fin 2 → IVec S16 32) a x).toNat < S88x128.size a := fun i k0_t1 k0_t2 v88 v90 k0_hw1 k0_h1 k0_h2 => k0_hw1 k0_h1 k0_h2
def k0_off4 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v99 : Index := Scalar.indexCast arg12
  let c0_62 : Index := 0#32
  ![v99.toNat, 0]

def k0_chk2 (i : grid0.Coords) (k0_t1 : Fin k0_t1_loop.trips) (k0_t2 : Fin k0_t2_loop.trips) (v101 : IVec S16 32) (v103 : IVec S16 32) : Prop :=
  (∀ (k0_h1 : k0_cond1 i k0_t1 = 1#1), ∀ (k0_h2 : k0_cond2 k0_t2 = 1#1), ∀ a x, ((![v101, v103] : Fin 2 → IVec S16 32) a x).toNat < S88x128.size a)
theorem k0_idx2_inb : ∀ (i : grid0.Coords) (k0_t1 : Fin k0_t1_loop.trips) (k0_t2 : Fin k0_t2_loop.trips) (v101 : IVec S16 32) (v103 : IVec S16 32) (k0_hw2 : k0_chk2 i k0_t1 k0_t2 v101 v103), ∀ (k0_h1 : k0_cond1 i k0_t1 = 1#1), ∀ (k0_h2 : k0_cond2 k0_t2 = 1#1), ∀ a x, ((![v101, v103] : Fin 2 → IVec S16 32) a x).toNat < S88x128.size a := fun i k0_t1 k0_t2 v101 v103 k0_hw2 k0_h1 k0_h2 => k0_hw2 k0_h1 k0_h2
def k0_off5 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v112 : Index := Scalar.indexCast arg12
  let c16_66 : Index := 16#32
  ![v112.toNat, 16]

def k0_chk3 (i : grid0.Coords) (k0_t1 : Fin k0_t1_loop.trips) (k0_t2 : Fin k0_t2_loop.trips) (v114 : IVec S16 32) (v116 : IVec S16 32) : Prop :=
  (∀ (k0_h1 : k0_cond1 i k0_t1 = 1#1), ∀ (k0_h2 : k0_cond2 k0_t2 = 1#1), ∀ a x, ((![v114, v116] : Fin 2 → IVec S16 32) a x).toNat < S88x128.size a)
theorem k0_idx3_inb : ∀ (i : grid0.Coords) (k0_t1 : Fin k0_t1_loop.trips) (k0_t2 : Fin k0_t2_loop.trips) (v114 : IVec S16 32) (v116 : IVec S16 32) (k0_hw3 : k0_chk3 i k0_t1 k0_t2 v114 v116), ∀ (k0_h1 : k0_cond1 i k0_t1 = 1#1), ∀ (k0_h2 : k0_cond2 k0_t2 = 1#1), ∀ a x, ((![v114, v116] : Fin 2 → IVec S16 32) a x).toNat < S88x128.size a := fun i k0_t1 k0_t2 v114 v116 k0_hw3 k0_h1 k0_h2 => k0_hw3 k0_h1 k0_h2
def k0_off6 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v125 : Index := Scalar.indexCast arg12
  let c32_71 : Index := 32#32
  ![v125.toNat, 32]

def k0_chk4 (i : grid0.Coords) (k0_t1 : Fin k0_t1_loop.trips) (k0_t2 : Fin k0_t2_loop.trips) (v127 : IVec S16 32) (v129 : IVec S16 32) : Prop :=
  (∀ (k0_h1 : k0_cond1 i k0_t1 = 1#1), ∀ (k0_h2 : k0_cond2 k0_t2 = 1#1), ∀ a x, ((![v127, v129] : Fin 2 → IVec S16 32) a x).toNat < S88x128.size a)
theorem k0_idx4_inb : ∀ (i : grid0.Coords) (k0_t1 : Fin k0_t1_loop.trips) (k0_t2 : Fin k0_t2_loop.trips) (v127 : IVec S16 32) (v129 : IVec S16 32) (k0_hw4 : k0_chk4 i k0_t1 k0_t2 v127 v129), ∀ (k0_h1 : k0_cond1 i k0_t1 = 1#1), ∀ (k0_h2 : k0_cond2 k0_t2 = 1#1), ∀ a x, ((![v127, v129] : Fin 2 → IVec S16 32) a x).toNat < S88x128.size a := fun i k0_t1 k0_t2 v127 v129 k0_hw4 k0_h1 k0_h2 => k0_hw4 k0_h1 k0_h2
def k0_off7 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v138 : Index := Scalar.indexCast arg12
  let c48_75 : Index := 48#32
  ![v138.toNat, 48]

def k0_chk5 (i : grid0.Coords) (k0_t1 : Fin k0_t1_loop.trips) (k0_t2 : Fin k0_t2_loop.trips) (v140 : IVec S16 32) (v142 : IVec S16 32) : Prop :=
  (∀ (k0_h1 : k0_cond1 i k0_t1 = 1#1), ∀ (k0_h2 : k0_cond2 k0_t2 = 1#1), ∀ a x, ((![v140, v142] : Fin 2 → IVec S16 32) a x).toNat < S88x128.size a)
theorem k0_idx5_inb : ∀ (i : grid0.Coords) (k0_t1 : Fin k0_t1_loop.trips) (k0_t2 : Fin k0_t2_loop.trips) (v140 : IVec S16 32) (v142 : IVec S16 32) (k0_hw5 : k0_chk5 i k0_t1 k0_t2 v140 v142), ∀ (k0_h1 : k0_cond1 i k0_t1 = 1#1), ∀ (k0_h2 : k0_cond2 k0_t2 = 1#1), ∀ a x, ((![v140, v142] : Fin 2 → IVec S16 32) a x).toNat < S88x128.size a := fun i k0_t1 k0_t2 v140 v142 k0_hw5 k0_h1 k0_h2 => k0_hw5 k0_h1 k0_h2
def k0_off8 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v151 : Index := Scalar.indexCast arg12
  let c64_79 : Index := 64#32
  ![v151.toNat, 64]

def k0_chk6 (i : grid0.Coords) (k0_t1 : Fin k0_t1_loop.trips) (k0_t2 : Fin k0_t2_loop.trips) (v153 : IVec S16 32) (v155 : IVec S16 32) : Prop :=
  (∀ (k0_h1 : k0_cond1 i k0_t1 = 1#1), ∀ (k0_h2 : k0_cond2 k0_t2 = 1#1), ∀ a x, ((![v153, v155] : Fin 2 → IVec S16 32) a x).toNat < S88x128.size a)
theorem k0_idx6_inb : ∀ (i : grid0.Coords) (k0_t1 : Fin k0_t1_loop.trips) (k0_t2 : Fin k0_t2_loop.trips) (v153 : IVec S16 32) (v155 : IVec S16 32) (k0_hw6 : k0_chk6 i k0_t1 k0_t2 v153 v155), ∀ (k0_h1 : k0_cond1 i k0_t1 = 1#1), ∀ (k0_h2 : k0_cond2 k0_t2 = 1#1), ∀ a x, ((![v153, v155] : Fin 2 → IVec S16 32) a x).toNat < S88x128.size a := fun i k0_t1 k0_t2 v153 v155 k0_hw6 k0_h1 k0_h2 => k0_hw6 k0_h1 k0_h2
def k0_off9 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v164 : Index := Scalar.indexCast arg12
  let c80_83 : Index := 80#32
  ![v164.toNat, 80]

def k0_chk7 (i : grid0.Coords) (k0_t1 : Fin k0_t1_loop.trips) (k0_t2 : Fin k0_t2_loop.trips) (v166 : IVec S16 32) (v168 : IVec S16 32) : Prop :=
  (∀ (k0_h1 : k0_cond1 i k0_t1 = 1#1), ∀ (k0_h2 : k0_cond2 k0_t2 = 1#1), ∀ a x, ((![v166, v168] : Fin 2 → IVec S16 32) a x).toNat < S88x128.size a)
theorem k0_idx7_inb : ∀ (i : grid0.Coords) (k0_t1 : Fin k0_t1_loop.trips) (k0_t2 : Fin k0_t2_loop.trips) (v166 : IVec S16 32) (v168 : IVec S16 32) (k0_hw7 : k0_chk7 i k0_t1 k0_t2 v166 v168), ∀ (k0_h1 : k0_cond1 i k0_t1 = 1#1), ∀ (k0_h2 : k0_cond2 k0_t2 = 1#1), ∀ a x, ((![v166, v168] : Fin 2 → IVec S16 32) a x).toNat < S88x128.size a := fun i k0_t1 k0_t2 v166 v168 k0_hw7 k0_h1 k0_h2 => k0_hw7 k0_h1 k0_h2
def k0_off10 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v177 : Index := Scalar.indexCast arg12
  let c96_87 : Index := 96#32
  ![v177.toNat, 96]

def k0_chk8 (i : grid0.Coords) (k0_t1 : Fin k0_t1_loop.trips) (k0_t2 : Fin k0_t2_loop.trips) (v179 : IVec S16 32) (v181 : IVec S16 32) : Prop :=
  (∀ (k0_h1 : k0_cond1 i k0_t1 = 1#1), ∀ (k0_h2 : k0_cond2 k0_t2 = 1#1), ∀ a x, ((![v179, v181] : Fin 2 → IVec S16 32) a x).toNat < S88x128.size a)
theorem k0_idx8_inb : ∀ (i : grid0.Coords) (k0_t1 : Fin k0_t1_loop.trips) (k0_t2 : Fin k0_t2_loop.trips) (v179 : IVec S16 32) (v181 : IVec S16 32) (k0_hw8 : k0_chk8 i k0_t1 k0_t2 v179 v181), ∀ (k0_h1 : k0_cond1 i k0_t1 = 1#1), ∀ (k0_h2 : k0_cond2 k0_t2 = 1#1), ∀ a x, ((![v179, v181] : Fin 2 → IVec S16 32) a x).toNat < S88x128.size a := fun i k0_t1 k0_t2 v179 v181 k0_hw8 k0_h1 k0_h2 => k0_hw8 k0_h1 k0_h2
def k0_off11 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v190 : Index := Scalar.indexCast arg12
  let c112_92 : Index := 112#32
  ![v190.toNat, 112]
def k0_cond4 (k0_t2 : Fin k0_t2_loop.trips) : BitVec 1 :=
  let c0_i32_23 : BitVec 32 := 0#32
  let c1_i32_25 : BitVec 32 := 1#32
  let arg12 : BitVec 32 := Scf.iv c0_i32_23 c1_i32_25 k0_t2
  let c2_i32_39 : BitVec 32 := 2#32
  let c0_i32_40 : BitVec 32 := 0#32
  let v65 : BitVec 1 := Scalar.cmpi .eq c2_i32_39 c0_i32_40
  let c1_i32_41 : BitVec 32 := 1#32
  let v66 : BitVec 32 := Scalar.select v65 c1_i32_41 c2_i32_39
  let v67 : BitVec 32 := Scalar.remsi arg12 v66
  let c0_i32_43 : BitVec 32 := 0#32
  let v69 : BitVec 1 := Scalar.cmpi .slt v67 c0_i32_43
  let c0_i32_44 : BitVec 32 := 0#32
  let v70 : BitVec 1 := Scalar.cmpi .slt v66 c0_i32_44
  let v71 : BitVec 1 := Scalar.xori v69 v70
  let c0_i32_42 : BitVec 32 := 0#32
  let v68 : BitVec 1 := Scalar.cmpi .ne v67 c0_i32_42
  let v72 : BitVec 1 := Scalar.andi v71 v68
  let v73 : BitVec 32 := Scalar.addi v67 v66
  let v74 : BitVec 32 := Scalar.select v72 v73 v67
  let c1_i32_45 : BitVec 32 := 1#32
  let v75 : BitVec 1 := Scalar.cmpi .eq v74 c1_i32_45
  let v76 : BitVec 32 := Scalar.extui v75
  let c0_i32_46 : BitVec 32 := 0#32
  let v77 : BitVec 1 := Scalar.cmpi .ne v76 c0_i32_46
  v77

def k0_cond5 (k0_t2 : Fin k0_t2_loop.trips) : BitVec 1 :=
  let c0_i32_23 : BitVec 32 := 0#32
  let c1_i32_25 : BitVec 32 := 1#32
  let arg12 : BitVec 32 := Scf.iv c0_i32_23 c1_i32_25 k0_t2
  let c1_i32_56 : BitVec 32 := 1#32
  let v84 : BitVec 32 := Scalar.addi arg12 c1_i32_56
  let c112_i32_57 : BitVec 32 := 112#32
  let v85 : BitVec 1 := Scalar.cmpi .slt v84 c112_i32_57
  let v86 : BitVec 32 := Scalar.extui v85
  let c0_i32_58 : BitVec 32 := 0#32
  let v87 : BitVec 1 := Scalar.cmpi .ne v86 c0_i32_58
  v87

def k0_off12 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c0_i32_9 : BitVec 32 := 0#32
  let v20 : BitVec 1 := Scalar.cmpi .sgt v5 c0_i32_9
  let v21 : BitVec 32 := Scalar.extui v20
  let c0_i32_10 : BitVec 32 := 0#32
  let v22 : BitVec 1 := Scalar.cmpi .slt v5 c0_i32_10
  let v23 : BitVec 32 := Scalar.extui v22
  let v24 : BitVec 32 := Scalar.subi v21 v23
  let c39_i32_8 : BitVec 32 := 39#32
  let c0_i32_11 : BitVec 32 := 0#32
  let v25 : BitVec 1 := Scalar.cmpi .sgt c39_i32_8 c0_i32_11
  let v26 : BitVec 32 := Scalar.extui v25
  let c0_i32_12 : BitVec 32 := 0#32
  let v27 : BitVec 1 := Scalar.cmpi .slt c39_i32_8 c0_i32_12
  let v28 : BitVec 32 := Scalar.extui v27
  let v29 : BitVec 32 := Scalar.subi v26 v28
  let v30 : BitVec 1 := Scalar.cmpi .ne v24 v29
  let v31 : BitVec 32 := Scalar.remsi v5 c39_i32_8
  let c0_i32_13 : BitVec 32 := 0#32
  let v32 : BitVec 1 := Scalar.cmpi .ne v31 c0_i32_13
  let v33 : BitVec 1 := Scalar.andi v30 v32
  let v19 : BitVec 32 := Scalar.divsi v5 c39_i32_8
  let c1_i32_14 : BitVec 32 := 1#32
  let v34 : BitVec 32 := Scalar.subi v19 c1_i32_14
  let v35 : BitVec 32 := Scalar.select v33 v34 v19
  let c112_i32 : BitVec 32 := 112#32
  let v38 : BitVec 32 := Scalar.muli v35 c112_i32
  let v39 : BitVec 32 := v38
  let c0_i32_23 : BitVec 32 := 0#32
  let c1_i32_25 : BitVec 32 := 1#32
  let arg12 : BitVec 32 := Scf.iv c0_i32_23 c1_i32_25 k0_t2
  let c1_i32_93 : BitVec 32 := 1#32
  let v192 : BitVec 32 := Scalar.addi arg12 c1_i32_93
  let v193 : BitVec 32 := Scalar.addi v39 v192
  let c0_i32_96 : BitVec 32 := 0#32
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  let v37 : BitVec 32 := v36
  ![v193.toNat, 0, v37.toNat]

def k0_chk9 (i : grid0.Coords) (k0_t1 : Fin k0_t1_loop.trips) (k0_t2 : Fin k0_t2_loop.trips) (v88 : IVec S16 32) (v90 : IVec S16 32) : Prop :=
  (∀ (k0_h1 : k0_cond1 i k0_t1 = 1#1), ∀ (k0_h4 : k0_cond4 k0_t2 = 1#1), ∀ a x, ((![v88, v90] : Fin 2 → IVec S16 32) a x).toNat < S88x128.size a)
theorem k0_idx9_inb : ∀ (i : grid0.Coords) (k0_t1 : Fin k0_t1_loop.trips) (k0_t2 : Fin k0_t2_loop.trips) (v88 : IVec S16 32) (v90 : IVec S16 32) (k0_hw9 : k0_chk9 i k0_t1 k0_t2 v88 v90), ∀ (k0_h1 : k0_cond1 i k0_t1 = 1#1), ∀ (k0_h4 : k0_cond4 k0_t2 = 1#1), ∀ a x, ((![v88, v90] : Fin 2 → IVec S16 32) a x).toNat < S88x128.size a := fun i k0_t1 k0_t2 v88 v90 k0_hw9 k0_h1 k0_h4 => k0_hw9 k0_h1 k0_h4
def k0_off13 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v99 : Index := Scalar.indexCast arg12
  let c0_62 : Index := 0#32
  ![v99.toNat, 0]

def k0_chk10 (i : grid0.Coords) (k0_t1 : Fin k0_t1_loop.trips) (k0_t2 : Fin k0_t2_loop.trips) (v101 : IVec S16 32) (v103 : IVec S16 32) : Prop :=
  (∀ (k0_h1 : k0_cond1 i k0_t1 = 1#1), ∀ (k0_h4 : k0_cond4 k0_t2 = 1#1), ∀ a x, ((![v101, v103] : Fin 2 → IVec S16 32) a x).toNat < S88x128.size a)
theorem k0_idx10_inb : ∀ (i : grid0.Coords) (k0_t1 : Fin k0_t1_loop.trips) (k0_t2 : Fin k0_t2_loop.trips) (v101 : IVec S16 32) (v103 : IVec S16 32) (k0_hw10 : k0_chk10 i k0_t1 k0_t2 v101 v103), ∀ (k0_h1 : k0_cond1 i k0_t1 = 1#1), ∀ (k0_h4 : k0_cond4 k0_t2 = 1#1), ∀ a x, ((![v101, v103] : Fin 2 → IVec S16 32) a x).toNat < S88x128.size a := fun i k0_t1 k0_t2 v101 v103 k0_hw10 k0_h1 k0_h4 => k0_hw10 k0_h1 k0_h4
def k0_off14 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v112 : Index := Scalar.indexCast arg12
  let c16_66 : Index := 16#32
  ![v112.toNat, 16]

def k0_chk11 (i : grid0.Coords) (k0_t1 : Fin k0_t1_loop.trips) (k0_t2 : Fin k0_t2_loop.trips) (v114 : IVec S16 32) (v116 : IVec S16 32) : Prop :=
  (∀ (k0_h1 : k0_cond1 i k0_t1 = 1#1), ∀ (k0_h4 : k0_cond4 k0_t2 = 1#1), ∀ a x, ((![v114, v116] : Fin 2 → IVec S16 32) a x).toNat < S88x128.size a)
theorem k0_idx11_inb : ∀ (i : grid0.Coords) (k0_t1 : Fin k0_t1_loop.trips) (k0_t2 : Fin k0_t2_loop.trips) (v114 : IVec S16 32) (v116 : IVec S16 32) (k0_hw11 : k0_chk11 i k0_t1 k0_t2 v114 v116), ∀ (k0_h1 : k0_cond1 i k0_t1 = 1#1), ∀ (k0_h4 : k0_cond4 k0_t2 = 1#1), ∀ a x, ((![v114, v116] : Fin 2 → IVec S16 32) a x).toNat < S88x128.size a := fun i k0_t1 k0_t2 v114 v116 k0_hw11 k0_h1 k0_h4 => k0_hw11 k0_h1 k0_h4
def k0_off15 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v125 : Index := Scalar.indexCast arg12
  let c32_71 : Index := 32#32
  ![v125.toNat, 32]

def k0_chk12 (i : grid0.Coords) (k0_t1 : Fin k0_t1_loop.trips) (k0_t2 : Fin k0_t2_loop.trips) (v127 : IVec S16 32) (v129 : IVec S16 32) : Prop :=
  (∀ (k0_h1 : k0_cond1 i k0_t1 = 1#1), ∀ (k0_h4 : k0_cond4 k0_t2 = 1#1), ∀ a x, ((![v127, v129] : Fin 2 → IVec S16 32) a x).toNat < S88x128.size a)
theorem k0_idx12_inb : ∀ (i : grid0.Coords) (k0_t1 : Fin k0_t1_loop.trips) (k0_t2 : Fin k0_t2_loop.trips) (v127 : IVec S16 32) (v129 : IVec S16 32) (k0_hw12 : k0_chk12 i k0_t1 k0_t2 v127 v129), ∀ (k0_h1 : k0_cond1 i k0_t1 = 1#1), ∀ (k0_h4 : k0_cond4 k0_t2 = 1#1), ∀ a x, ((![v127, v129] : Fin 2 → IVec S16 32) a x).toNat < S88x128.size a := fun i k0_t1 k0_t2 v127 v129 k0_hw12 k0_h1 k0_h4 => k0_hw12 k0_h1 k0_h4
def k0_off16 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v138 : Index := Scalar.indexCast arg12
  let c48_75 : Index := 48#32
  ![v138.toNat, 48]

def k0_chk13 (i : grid0.Coords) (k0_t1 : Fin k0_t1_loop.trips) (k0_t2 : Fin k0_t2_loop.trips) (v140 : IVec S16 32) (v142 : IVec S16 32) : Prop :=
  (∀ (k0_h1 : k0_cond1 i k0_t1 = 1#1), ∀ (k0_h4 : k0_cond4 k0_t2 = 1#1), ∀ a x, ((![v140, v142] : Fin 2 → IVec S16 32) a x).toNat < S88x128.size a)
theorem k0_idx13_inb : ∀ (i : grid0.Coords) (k0_t1 : Fin k0_t1_loop.trips) (k0_t2 : Fin k0_t2_loop.trips) (v140 : IVec S16 32) (v142 : IVec S16 32) (k0_hw13 : k0_chk13 i k0_t1 k0_t2 v140 v142), ∀ (k0_h1 : k0_cond1 i k0_t1 = 1#1), ∀ (k0_h4 : k0_cond4 k0_t2 = 1#1), ∀ a x, ((![v140, v142] : Fin 2 → IVec S16 32) a x).toNat < S88x128.size a := fun i k0_t1 k0_t2 v140 v142 k0_hw13 k0_h1 k0_h4 => k0_hw13 k0_h1 k0_h4
def k0_off17 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v151 : Index := Scalar.indexCast arg12
  let c64_79 : Index := 64#32
  ![v151.toNat, 64]

def k0_chk14 (i : grid0.Coords) (k0_t1 : Fin k0_t1_loop.trips) (k0_t2 : Fin k0_t2_loop.trips) (v153 : IVec S16 32) (v155 : IVec S16 32) : Prop :=
  (∀ (k0_h1 : k0_cond1 i k0_t1 = 1#1), ∀ (k0_h4 : k0_cond4 k0_t2 = 1#1), ∀ a x, ((![v153, v155] : Fin 2 → IVec S16 32) a x).toNat < S88x128.size a)
theorem k0_idx14_inb : ∀ (i : grid0.Coords) (k0_t1 : Fin k0_t1_loop.trips) (k0_t2 : Fin k0_t2_loop.trips) (v153 : IVec S16 32) (v155 : IVec S16 32) (k0_hw14 : k0_chk14 i k0_t1 k0_t2 v153 v155), ∀ (k0_h1 : k0_cond1 i k0_t1 = 1#1), ∀ (k0_h4 : k0_cond4 k0_t2 = 1#1), ∀ a x, ((![v153, v155] : Fin 2 → IVec S16 32) a x).toNat < S88x128.size a := fun i k0_t1 k0_t2 v153 v155 k0_hw14 k0_h1 k0_h4 => k0_hw14 k0_h1 k0_h4
def k0_off18 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v164 : Index := Scalar.indexCast arg12
  let c80_83 : Index := 80#32
  ![v164.toNat, 80]

def k0_chk15 (i : grid0.Coords) (k0_t1 : Fin k0_t1_loop.trips) (k0_t2 : Fin k0_t2_loop.trips) (v166 : IVec S16 32) (v168 : IVec S16 32) : Prop :=
  (∀ (k0_h1 : k0_cond1 i k0_t1 = 1#1), ∀ (k0_h4 : k0_cond4 k0_t2 = 1#1), ∀ a x, ((![v166, v168] : Fin 2 → IVec S16 32) a x).toNat < S88x128.size a)
theorem k0_idx15_inb : ∀ (i : grid0.Coords) (k0_t1 : Fin k0_t1_loop.trips) (k0_t2 : Fin k0_t2_loop.trips) (v166 : IVec S16 32) (v168 : IVec S16 32) (k0_hw15 : k0_chk15 i k0_t1 k0_t2 v166 v168), ∀ (k0_h1 : k0_cond1 i k0_t1 = 1#1), ∀ (k0_h4 : k0_cond4 k0_t2 = 1#1), ∀ a x, ((![v166, v168] : Fin 2 → IVec S16 32) a x).toNat < S88x128.size a := fun i k0_t1 k0_t2 v166 v168 k0_hw15 k0_h1 k0_h4 => k0_hw15 k0_h1 k0_h4
def k0_off19 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v177 : Index := Scalar.indexCast arg12
  let c96_87 : Index := 96#32
  ![v177.toNat, 96]

def k0_chk16 (i : grid0.Coords) (k0_t1 : Fin k0_t1_loop.trips) (k0_t2 : Fin k0_t2_loop.trips) (v179 : IVec S16 32) (v181 : IVec S16 32) : Prop :=
  (∀ (k0_h1 : k0_cond1 i k0_t1 = 1#1), ∀ (k0_h4 : k0_cond4 k0_t2 = 1#1), ∀ a x, ((![v179, v181] : Fin 2 → IVec S16 32) a x).toNat < S88x128.size a)
theorem k0_idx16_inb : ∀ (i : grid0.Coords) (k0_t1 : Fin k0_t1_loop.trips) (k0_t2 : Fin k0_t2_loop.trips) (v179 : IVec S16 32) (v181 : IVec S16 32) (k0_hw16 : k0_chk16 i k0_t1 k0_t2 v179 v181), ∀ (k0_h1 : k0_cond1 i k0_t1 = 1#1), ∀ (k0_h4 : k0_cond4 k0_t2 = 1#1), ∀ a x, ((![v179, v181] : Fin 2 → IVec S16 32) a x).toNat < S88x128.size a := fun i k0_t1 k0_t2 v179 v181 k0_hw16 k0_h1 k0_h4 => k0_hw16 k0_h1 k0_h4
def k0_off20 (k0_t2 : Fin k0_t2_loop.trips) : Fin 2 → Nat :=
  let c0_i32_23 : BitVec 32 := 0#32
  let c1_i32_25 : BitVec 32 := 1#32
  let arg12 : BitVec 32 := Scf.iv c0_i32_23 c1_i32_25 k0_t2
  let v190 : Index := Scalar.indexCast arg12
  let c112_92 : Index := 112#32
  ![v190.toNat, 112]
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg11 : BitVec 32 := Scf.iv c0_i32_0 c1_i32 k0_t1
  let c32_i32 : BitVec 32 := 32#32
  let v4 : BitVec 32 := Scalar.muli arg11 c32_i32
  let v5 : BitVec 32 := Scalar.addi v1 v4
  let c0_i32_9 : BitVec 32 := 0#32
  let v20 : BitVec 1 := Scalar.cmpi .sgt v5 c0_i32_9
  let v21 : BitVec 32 := Scalar.extui v20
  let c0_i32_10 : BitVec 32 := 0#32
  let v22 : BitVec 1 := Scalar.cmpi .slt v5 c0_i32_10
  let v23 : BitVec 32 := Scalar.extui v22
  let v24 : BitVec 32 := Scalar.subi v21 v23
  let c39_i32_8 : BitVec 32 := 39#32
  let c0_i32_11 : BitVec 32 := 0#32
  let v25 : BitVec 1 := Scalar.cmpi .sgt c39_i32_8 c0_i32_11
  let v26 : BitVec 32 := Scalar.extui v25
  let c0_i32_12 : BitVec 32 := 0#32
  let v27 : BitVec 1 := Scalar.cmpi .slt c39_i32_8 c0_i32_12
  let v28 : BitVec 32 := Scalar.extui v27
  let v29 : BitVec 32 := Scalar.subi v26 v28
  let v30 : BitVec 1 := Scalar.cmpi .ne v24 v29
  let v31 : BitVec 32 := Scalar.remsi v5 c39_i32_8
  let c0_i32_13 : BitVec 32 := 0#32
  let v32 : BitVec 1 := Scalar.cmpi .ne v31 c0_i32_13
  let v33 : BitVec 1 := Scalar.andi v30 v32
  let v19 : BitVec 32 := Scalar.divsi v5 c39_i32_8
  let c1_i32_14 : BitVec 32 := 1#32
  let v34 : BitVec 32 := Scalar.subi v19 c1_i32_14
  let v35 : BitVec 32 := Scalar.select v33 v34 v19
  let c112_i32 : BitVec 32 := 112#32
  let v38 : BitVec 32 := Scalar.muli v35 c112_i32
  let v39 : BitVec 32 := v38
  let c39_i32 : BitVec 32 := 39#32
  let c0_i32_3 : BitVec 32 := 0#32
  let v9 : BitVec 1 := Scalar.cmpi .eq c39_i32 c0_i32_3
  let c1_i32_4 : BitVec 32 := 1#32
  let v10 : BitVec 32 := Scalar.select v9 c1_i32_4 c39_i32
  let v11 : BitVec 32 := Scalar.remsi v5 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c128_i32 : BitVec 32 := 128#32
  let v36 : BitVec 32 := Scalar.muli v18 c128_i32
  let v37 : BitVec 32 := v36
  ![v39.toNat, v37.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x81x28x28 : Shape := ⟨4, ![5000, 81, 28, 28]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x28x28 : Shape := ⟨3, ![5000, 28, 28]⟩
abbrev S5000x1x28x28 : Shape := ⟨4, ![5000, 1, 28, 28]⟩

abbrev nBuf : Space → Nat
  | .hbm => 30
  | .vmem => 0
  | .smem => 0
  | _ => 0

abbrev bufTy : (tb : Table) → Fin (tcTables nBuf tb) → BufTy
  | .hbm, ⟨0, _⟩ => ⟨S5000x81x28x28, .f32⟩
  | .hbm, ⟨1, _⟩ => ⟨S5000, .i32⟩
  | .hbm, ⟨2, _⟩ => ⟨S5000x81x28x28, .f32⟩
  | .hbm, ⟨3, _⟩ => ⟨S5000x81x28x28, .f32⟩
  | .hbm, ⟨4, _⟩ => ⟨S_, .f32⟩
  | .hbm, ⟨5, _⟩ => ⟨S5000x81x28x28, .f32⟩
  | .hbm, ⟨6, _⟩ => ⟨S5000x81x28x28, .f32⟩
  | .hbm, ⟨7, _⟩ => ⟨S_, .f32⟩
  | .hbm, ⟨8, _⟩ => ⟨S5000x81x28x28, .f32⟩
  | .hbm, ⟨9, _⟩ => ⟨S5000x81x28x28, .f32⟩
  | .hbm, ⟨10, _⟩ => ⟨S5000, .i32⟩
  | .hbm, ⟨11, _⟩ => ⟨S_, .i32⟩
  | .hbm, ⟨12, _⟩ => ⟨S5000, .i32⟩
  | .hbm, ⟨13, _⟩ => ⟨S5000, .i1⟩
  | .hbm, ⟨14, _⟩ => ⟨S_, .i32⟩
  | .hbm, ⟨15, _⟩ => ⟨S5000, .i32⟩
  | .hbm, ⟨16, _⟩ => ⟨S5000, .i32⟩
  | .hbm, ⟨17, _⟩ => ⟨S5000, .i32⟩
  | .hbm, ⟨18, _⟩ => ⟨S_, .i32⟩
  | .hbm, ⟨19, _⟩ => ⟨S5000, .i32⟩
  | .hbm, ⟨20, _⟩ => ⟨S5000, .i1⟩
  | .hbm, ⟨21, _⟩ => ⟨S_, .i32⟩
  | .hbm, ⟨22, _⟩ => ⟨S5000, .i32⟩
  | .hbm, ⟨23, _⟩ => ⟨S5000, .i32⟩
  | .hbm, ⟨24, _⟩ => ⟨S5000, .i32⟩
  | .hbm, ⟨25, _⟩ => ⟨S5000x1, .i32⟩
  | .hbm, ⟨26, _⟩ => ⟨S5000x1, .i32⟩
  | .hbm, ⟨27, _⟩ => ⟨S5000x2, .i32⟩
  | .hbm, ⟨28, _⟩ => ⟨S5000x28x28, .f32⟩
  | .hbm, ⟨29, _⟩ => ⟨S5000x1x28x28, .f32⟩
  | _, _ => ⟨S5000x81x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Offsets.lean ====
/-
  Which unit of work a subcore takes at each trip of its outer loop, and where the slices it copies lie: the printed
  conditions and offsets, evaluated at every subcore and trip.
-/
module

public import proofs.«01_k».proof.Proof.Gen.KernelIdeal

@[expose] public section

noncomputable section

namespace Cert.Proof

open Cert.KernelIdeal Cert.KernelIdeal.Gen
open Idealize.ShloMosaic Idealize.SL.Sem

/-! ## Units of work -/

/-- The unit (of 273) the subcore at `i` meets at trip `u`. -/
def unitAt (i : grid0.Coords) (u : ℕ) : ℕ := 2 * (i 1).val + (i 0).val + 32 * u
/-- A unit's first column. -/
def col0 (n : ℕ) : ℕ := 128 * (n % 39)
/-- A unit's first plane. -/
def pl0 (n : ℕ) : ℕ := 112 * (n / 39)

theorem t1_lt (t : Fin k0_t1_loop.trips) : t.val < 9 := Nat.lt_of_lt_of_le t.isLt k0_t1_abs.2.1
theorem t2_lt (t : Fin k0_t2_loop.trips) : t.val < 112 := Nat.lt_of_lt_of_le t.isLt k0_t2_abs.2.1
theorem t1_trips : k0_t1_loop.trips = 9 := by decide +kernel
theorem t2_trips : k0_t2_loop.trips = 112 := by decide +kernel

theorem cond1_iff : ∀ (i : grid0.Coords) (t : Fin k0_t1_loop.trips), k0_cond1 i t = 1#1 ↔ unitAt i t.val < 273 := by decide +kernel
theorem cond2_iff : ∀ t : Fin k0_t2_loop.trips, k0_cond2 t = 1#1 ↔ t.val % 2 = 0 := by decide +kernel
theorem cond3_iff : ∀ t : Fin k0_t2_loop.trips, k0_cond3 t = 1#1 ↔ t.val + 1 < 112 := by decide +kernel
theorem cond4_iff : ∀ t : Fin k0_t2_loop.trips, k0_cond4 t = 1#1 ↔ t.val % 2 = 1 := by decide +kernel
theorem cond5_iff : ∀ t : Fin k0_t2_loop.trips, k0_cond5 t = 1#1 ↔ t.val + 1 < 112 := by decide +kernel

theorem off1_eq : ∀ (i : grid0.Coords) (t : Fin k0_t1_loop.trips), k0_cond1 i t = 1#1 → k0_off1 i t = ![col0 (unitAt i t.val)] := by decide +kernel
theorem off2_eq : ∀ (i : grid0.Coords) (t : Fin k0_t1_loop.trips), k0_cond1 i t = 1#1 →
    k0_off2 i t = ![pl0 (unitAt i t.val), 0, col0 (unitAt i t.val)] := by decide +kernel
theorem off21_eq : ∀ (i : grid0.Coords) (t : Fin k0_t1_loop.trips), k0_cond1 i t = 1#1 →
    k0_off21 i t = ![pl0 (unitAt i t.val), col0 (unitAt i t.val)] := by decide +kernel

theorem off3_eq : ∀ (i : grid0.Coords) (t : Fin k0_t1_loop.trips) (p : Fin k0_t2_loop.trips), k0_cond1 i t = 1#1 →
    k0_off3 i t p = ![pl0 (unitAt i t.val) + (p.val + 1), 0, col0 (unitAt i t.val)] := by decide +kernel
theorem off12_eq (i : grid0.Coords) (t : Fin k0_t1_loop.trips) (p : Fin k0_t2_loop.trips) (h : k0_cond1 i t = 1#1) :
    k0_off12 i t p = ![pl0 (unitAt i t.val) + (p.val + 1), 0, col0 (unitAt i t.val)] := off3_eq i t p h

end Cert.Proof

end
-- ==== Proof.Values.lean ====
/-
  The values of the kernel and the pure facts about them: what each buffer holds, and how the eight groups of sixteen
  columns fill a row of the output block. No program logic here; `Unit.lean` runs a unit over these facts.
-/
module

public import proofs.«01_k».proof.Proof.Offsets
public import proofs.«01_k».proof.Proof.Gen.KernelIdeal.Skeleton
public import Idealize.ShloMosaic.Lib.Pipeline.Kit
public import Idealize.ShloMosaic.Lib.Pipeline.Value
public import Idealize.ShloMosaic.Lib.ValueIdx

@[expose] public section

noncomputable section

namespace Cert.Proof

open Cert.KernelIdeal Cert.KernelIdeal.Gen
open Idealize.ShloMosaic Idealize.SL.Sem

variable {F : FTy → Type}

/-! ## What the buffers hold -/

/-- Element `(p, r, n)` of the planes, `n` of the labels: coordinates as naturals, reduced to range. -/
def xIdx (p r n : ℕ) : S784x81x5000.Idx := ValueIdx.ix3 ⟨p % 784, Nat.mod_lt _ (by decide)⟩ ⟨r % 81, Nat.mod_lt _ (by decide)⟩ ⟨n % 5000, Nat.mod_lt _ (by decide)⟩
def lIdx (n : ℕ) : S5000.Idx := ValueIdx.ix1 ⟨n % 5000, Nat.mod_lt _ (by decide)⟩

section Values
variable [FloatOps F]

/-- One element through the kernel's sigmoid: `1 / (1 + exp (0 - v))`. -/
def sg (v : F .f32) : F .f32 :=
  FloatOps.divf (Scalar.ofBits .f32 0x3F800000#32) (FloatOps.addf (Scalar.ofBits .f32 0x3F800000#32) (FloatOps.exp (FloatOps.subf (Scalar.ofBits .f32 0x00000000#32) v)))

theorem pay6_sg (v : Vec F S16 .f32) (x : S16.Idx) : k0_pay6 v x = sg (v x) := rfl
theorem pay98_sg (v : Vec F S16 .f32) (x : S16.Idx) : k0_pay9 (k0_pay8 v) x = sg (v x) := rfl

variable (X : Vec F S784x81x5000 .f32) (Lb : Vec F S5000 .i32)

/-- What the kernel leaves at plane `p`, column `n`: the sigmoid of the element the column's label names. -/
def Gv (p n : ℕ) : F .f32 := sg (X (xIdx p (Lb (lIdx n)).toNat n))
/-- The whole result of the kernel. -/
def G (i : S784x4992.Idx) : F .f32 := Gv X Lb (i 0).val (i 1).val

/-- The label buffer holds the labels from column `c` on. -/
def LabHolds (c : ℕ) (B : Vec F S128 .i32) : Prop := ∀ j : S128.Idx, B j = Lb (lIdx (c + (j 0).val))
/-- A fetch buffer holds plane `p` from column `c` on, in its first 81 rows. -/
def Fetched (p c : ℕ) (A : Vec F S88x128 .f32) : Prop :=
  ∀ j : S88x128.Idx, (j 0).val < 81 → A j = X (xIdx p (j 0).val (c + (j 1).val))
/-- The output block is finished in its first `k` rows and in row `k`'s first `o` columns. -/
def Done (p c k o : ℕ) (f : Vec F S112x128 .f32) : Prop :=
  ∀ j : S112x128.Idx, ((j 0).val < k ∨ ((j 0).val = k ∧ (j 1).val < o)) → f j = Gv X Lb (p + (j 0).val) (c + (j 1).val)

end Values

/-! ## A group of sixteen columns -/

/-- The columns a group gathers at: its first column plus the lane. -/
theorem cols_val (o : ℕ) (ho : o ≤ 112) (x : S16.Idx) :
    (addi (broadcast S16 (BitVec.ofNat 32 o)) (iota .scVector S16 32 [0] iota_S16_d0_w32_scVector) x).toNat = o + (x 0).val := by
  have hx : (x 0).val < 16 := (x 0).isLt
  show (BitVec.ofNat 32 o + iota .scVector S16 32 [0] iota_S16_d0_w32_scVector x).toNat = _
  rw [iota_single_apply, BitVec.toNat_add, BitVec.toNat_ofNat, BitVec.toNat_ofNat]
  show (o % 2 ^ 32 + (x 0).val % 2 ^ 32) % 2 ^ 32 = _
  omega

section Group
variable [FloatOps F] (X : Vec F S784x81x5000 .f32) (Lb : Vec F S5000 .i32)

/-- The sixteen labels a group loads are the labels of its columns. -/
theorem lab_read {c o : ℕ} {B : Vec F S128 .i32} (hB : LabHolds Lb c B) {inb} (x : S16.Idx) :
    (Memref.whole cc0_scratch0 : Memref sig .scVector .vmem S128 .i32).view.readAt (Elt F) (Rect.unit (s := S128) ![o] S16.size inb).toLoadRect B x
      = Lb (lIdx (c + (o + (x 0).val))) := by
  simp only [View.readAt_apply, Memref.view_whole, View.read_whole]
  rw [hB]
  congr 3
  refine (LoadRect.idx_apply (Rect.unit (s := S128) ![o] S16.size inb).toLoadRect x 0).trans ?_
  show o + 1 * (x 0).val = _
  omega

/-- With labels below 81 the gather's indices lie in the buffer. -/
theorem chk_ok {c o : ℕ} (ho : o ≤ 112) (hL : ∀ i, (Lb i).toNat < 81) {v88 v90 : IVec S16 32}
    (h88 : ∀ x, v88 x = Lb (lIdx (c + (o + (x 0).val)))) (h90 : ∀ x, (v90 x).toNat = o + (x 0).val) :
    ∀ a x, ((![v88, v90] : Fin 2 → IVec S16 32) a x).toNat < S88x128.size a := by
  intro a x
  have hx : (x 0).val < 16 := (x 0).isLt
  match a with
  | 0 => show (v88 x).toNat < 88; rw [h88]; have := hL (lIdx (c + (o + (x 0).val))); omega
  | 1 => show (v90 x).toNat < 128; rw [h90]; omega

/-- What a lane gathers, through the sigmoid: the kernel's value at the lane's column. -/
theorem gather_val {p c o : ℕ} (hL : ∀ i, (Lb i).toNat < 81) {A : Vec F S88x128 .f32} (hA : Fetched X p c A) {v88 v90 : IVec S16 32}
    (h88 : ∀ x, v88 x = Lb (lIdx (c + (o + (x 0).val)))) (h90 : ∀ x, (v90 x).toNat = o + (x 0).val)
    (h : ∀ a x, ((![v88, v90] : Fin 2 → IVec S16 32) a x).toNat < S88x128.size a) (x : S16.Idx) (n : ℕ) (hn : o + (x 0).val = n) :
    sg (loadIdx (s := S88x128) A ![v88, v90] h x) = Gv X Lb p (c + n) := by
  have e0 : (idxAt (s := S88x128) ![v88, v90] h x 0).val = (Lb (lIdx (c + n))).toNat := by
    show (v88 x).toNat = _
    rw [h88, hn]
  have e1 : (idxAt (s := S88x128) ![v88, v90] h x 1).val = n := by
    show (v90 x).toNat = _
    rw [h90, hn]
  unfold Gv loadIdx
  rw [hA _ (by rw [e0]; exact hL _), e0, e1]

/-- A group's store advances the output block by sixteen columns of its row. -/
theorem done_step {p c k o : ℕ} (ho : o ≤ 112) {f : Vec F S112x128 .f32} (hf : Done X Lb p c k o f)
    {off : Fin 2 → ℕ} (hoff : off = ![k, o]) (inb : ∀ a, off a + S1x16.size a ≤ S112x128.size a)
    {w : FVec F S16 .f32} (hw : ∀ x : S16.Idx, w x = Gv X Lb (p + k) (c + o + (x 0).val)) (hc : S16.ShapeCasts S1x16) :
    Done X Lb p c k (o + 16)
      (((Memref.whole cc0_scratch3 : Memref sig .scVector .vmem S112x128 .f32).access (Rect.unit (s := S112x128) off S1x16.size inb)).write (Elt F) f
        (shapeCast S1x16 w hc) Finset.univ) := by
  subst hoff
  intro j hj
  have e := View.write_whole_slice_unit (Val := Elt F) cc0_scratch3 ![k, o] S1x16.size inb f (shapeCast S1x16 w hc)
  refine (congrFun e j).trans ?_
  unfold updateSlice
  by_cases hin : (j 0).val = k ∧ o ≤ (j 1).val
  · have hj1 : (j 1).val < o + 16 := by omega
    rw [dif_pos (fun a => match a with
      | ⟨0, _⟩ => by show k ≤ (j 0).val ∧ (j 0).val < k + 1; omega
      | ⟨1, _⟩ => by show o ≤ (j 1).val ∧ (j 1).val < o + 16; omega)]
    refine (shapeCast_addUnit_apply _ w hc _).trans ?_
    refine (hw _).trans ?_
    refine congrArg₂ (Gv X Lb) (by rw [hin.1]) ?_
    show c + o + ((j 1).val - o) = c + (j 1).val
    omega
  · rw [dif_neg (fun hn => hin (by
      have h0 : k ≤ (j 0).val ∧ (j 0).val < k + 1 := hn 0
      have h1 : o ≤ (j 1).val ∧ (j 1).val < o + 16 := hn 1
      omega))]
    exact hf j (by omega)

/-- A row of 128 finished columns is a finished row. -/
theorem Done.next {p c k : ℕ} {f : Vec F S112x128 .f32} (h : Done X Lb p c k 128 f) : Done X Lb p c (k + 1) 0 f :=
  fun j hj => h j (by have : (j 1).val < 128 := (j 1).isLt; omega)
theorem Done.zero {p c : ℕ} (f : Vec F S112x128 .f32) : Done X Lb p c 0 0 f := fun j hj => by omega

end Group

end Cert.Proof

end
-- ==== Proof.Copies.lean ====
/-
  The kernel's buffers as a subcore names them, the slices its copies go through, and what each copy lands: a piece of the
  labels, a plane's 81 rows of one column block, a finished block of the result.
-/
module

public import proofs.«01_k».proof.Proof.Values
public import Idealize.ShloMosaic.Lib.ValueLayout
public import Idealize.ShloMosaic.Lib.Pipeline.ValueKit.Geometry

@[expose] public section

noncomputable section

namespace Cert.Proof

open Cert.KernelIdeal Cert.KernelIdeal.Gen
open Idealize.ShloMosaic Idealize.SL.Sem

variable {F : FTy → Type}

/-! ## Buffers and slices -/

/-- The planes, the labels, the result in HBM. -/
abbrev xV : Memref sig .scVector .hbm S784x81x5000 .f32 := Memref.whole main_v1_scv
abbrev lV : Memref sig .scVector .hbm S5000 .i32 := Memref.whole main_arg1_scv
abbrev oV : Memref sig .scVector .hbm S784x4992 .f32 := Memref.whole main_v2_scv
/-- A subcore's scratch: the labels, the two fetch buffers, the output block. -/
abbrev sL : Memref sig .scVector .vmem S128 .i32 := Memref.whole cc0_scratch0
abbrev sA : Memref sig .scVector .vmem S88x128 .f32 := Memref.whole cc0_scratch1
abbrev sB : Memref sig .scVector .vmem S88x128 .f32 := Memref.whole cc0_scratch2
abbrev sO : Memref sig .scVector .vmem S112x128 .f32 := Memref.whole cc0_scratch3

/-- A piece of the labels, a plane's rows over a column block, a block of the result, a fetch buffer's first 81 rows. -/
abbrev lPc (off : Fin 1 → ℕ) (inb : ∀ a, off a + S128.size a ≤ S5000.size a) : Memref sig .scVector .hbm S128 .i32 :=
  lV.slice (Rect.unit (s := S5000) off S128.size inb) (fun _ => rfl)
abbrev xPl (off : Fin 3 → ℕ) (inb : ∀ a, off a + S1x81x128.size a ≤ S784x81x5000.size a) : Memref sig .scVector .hbm S81x128 .f32 :=
  (xV.slice (Rect.unit (s := S784x81x5000) off S1x81x128.size inb) (fun _ => rfl)).squeeze S81x128 squeezes_S1x81x128_S81x128
abbrev oBk (off : Fin 2 → ℕ) (inb : ∀ a, off a + S112x128.size a ≤ S784x4992.size a) : Memref sig .scVector .hbm S112x128 .f32 :=
  oV.slice (Rect.unit (s := S784x4992) off S112x128.size inb) (fun _ => rfl)
abbrev top (b : Memref sig .scVector .vmem S88x128 .f32) : Memref sig .scVector .vmem S81x128 .f32 :=
  b.slice (Rect.unit (s := S88x128) ![0, 0] S81x128.size inb_S88x128_S81x128_0_0) (fun _ => rfl)

section
variable [FloatOps F] (X : Vec F S784x81x5000 .f32) (Lb : Vec F S5000 .i32)

/-- The label copy leaves the labels of its columns. -/
theorem labels_land {c : ℕ} {off : Fin 1 → ℕ} (hoff : off = ![c]) (inb : ∀ a, off a + S128.size a ≤ S5000.size a) (fd : Vec F S128 .i32) :
    LabHolds Lb c (sL.view.write (Elt F) fd ((lPc off inb).view.read (Elt F) Lb) Finset.univ) := by
  subst hoff
  intro j
  have hj : (j 0).val < 128 := (j 0).isLt
  have hb : c + 128 ≤ 5000 := inb 0
  refine (congrFun (View.write_whole_univ (Val := Elt F) _ _ _) j).trans ?_
  refine ((View.read_apply _ _).trans (cast_eq _ _)).trans ?_
  refine congrArg Lb (funext fun a => Fin.ext ?_)
  match a with
  | ⟨0, _⟩ =>
    refine (ValueKit.rect_emb_unit_val _ _ _ _ _).trans ?_
    show c + (j 0).val = (c + (j 0).val) % 5000
    omega

/-- What a plane's slice reads: that plane's rows over the slice's columns. -/
theorem xPl_read {p c : ℕ} {off : Fin 3 → ℕ} (hoff : off = ![p, 0, c]) (inb : ∀ a, off a + S1x81x128.size a ≤ S784x81x5000.size a) (j : S81x128.Idx) :
    (xPl off inb).view.read (Elt F) X j = X (xIdx p (j 0).val (c + (j 1).val)) := by
  subst hoff
  have h0 : (j 0).val < 81 := (j 0).isLt
  have h1 : (j 1).val < 128 := (j 1).isLt
  have hp : p + 1 ≤ 784 := inb 0
  have hc : c + 128 ≤ 5000 := inb 2
  refine ((View.read_apply _ _).trans (cast_eq _ _)).trans ?_
  have e : Shape.reshapeEquiv (squeezes_S1x81x128_S81x128).numel_eq j = ValueIdx.ix3 (0 : Fin 1) (j 0) (j 1) := by
    conv_lhs => rw [ValueIdx.eq_ix2 j]
    exact ValueIdx.reshapeEquiv_ix2_1ab _ _ _
  refine congrArg X (funext fun a => Fin.ext ?_)
  have key : ∀ y : S1x81x128.Idx, y = ValueIdx.ix3 (0 : Fin 1) (j 0) (j 1) →
      ((Rect.unit (s := S784x81x5000) ![p, 0, c] S1x81x128.size inb).emb y a).val = (xIdx p (j 0).val (c + (j 1).val) a).val := by
    intro y hy
    subst hy
    refine (ValueKit.rect_emb_unit_val _ _ _ _ _).trans ?_
    match a with
    | ⟨0, _⟩ => show p + 0 = p % 784; omega
    | ⟨1, _⟩ => show 0 + (j 0).val = (j 0).val % 81; omega
    | ⟨2, _⟩ => show c + (j 1).val = (c + (j 1).val) % 5000; omega
  exact key _ e

theorem fetched_update {p c : ℕ} {w : S81x128.Idx → F .f32} (hw : ∀ j, w j = X (xIdx p (j 0).val (c + (j 1).val)))
    (fd : Vec F S88x128 .f32) (h : S88x128.Slices ![0, 0] S81x128) : Fetched X p c (updateSlice fd w ![0, 0] h) := by
  intro j hj
  have h1 : (j 1).val < 128 := (j 1).isLt
  unfold updateSlice
  rw [dif_pos (fun a => match a with
    | ⟨0, _⟩ => by show 0 ≤ (j 0).val ∧ (j 0).val < 0 + 81; omega
    | ⟨1, _⟩ => by show 0 ≤ (j 1).val ∧ (j 1).val < 0 + 128; omega)]
  exact hw _

/-- A fetch leaves its plane in the buffer's first 81 rows: at either buffer. -/
theorem fetch_landsA {p c : ℕ} {off : Fin 3 → ℕ} (hoff : off = ![p, 0, c]) (inb : ∀ a, off a + S1x81x128.size a ≤ S784x81x5000.size a) (fd : Vec F S88x128 .f32) :
    Fetched X p c ((top sA).view.write (Elt F) fd ((xPl off inb).view.read (Elt F) X) Finset.univ) := by
  have e := View.write_whole_slice_unit (Val := Elt F) cc0_scratch1 ![0, 0] S81x128.size inb_S88x128_S81x128_0_0 fd ((xPl off inb).view.read (Elt F) X)
  exact e ▸ fetched_update X (xPl_read X hoff inb) fd _
theorem fetch_landsB {p c : ℕ} {off : Fin 3 → ℕ} (hoff : off = ![p, 0, c]) (inb : ∀ a, off a + S1x81x128.size a ≤ S784x81x5000.size a) (fd : Vec F S88x128 .f32) :
    Fetched X p c ((top sB).view.write (Elt F) fd ((xPl off inb).view.read (Elt F) X) Finset.univ) := by
  have e := View.write_whole_slice_unit (Val := Elt F) cc0_scratch2 ![0, 0] S81x128.size inb_S88x128_S81x128_0_0 fd ((xPl off inb).view.read (Elt F) X)
  exact e ▸ fetched_update X (xPl_read X hoff inb) fd _

/-! ## The result's tiles -/

/-- The unit an element of the result belongs to. -/
def unitOf (i : S784x4992.Idx) : ℕ := 39 * ((i 0).val / 112) + (i 1).val / 128
/-- The elements of the result the subcore numbered `w` writes. -/
def tileSet (w : ℕ) : Finset S784x4992.Idx := Finset.univ.filter fun i => unitOf i % 32 = w

theorem unitOf_lt (i : S784x4992.Idx) : unitOf i < 273 := by
  have h0 : (i 0).val < 784 := (i 0).isLt
  have h1 : (i 1).val < 4992 := (i 1).isLt
  unfold unitOf; omega

/-- The elements of a unit's block. -/
theorem unitOf_eq_iff {n : ℕ} (i : S784x4992.Idx) :
    unitOf i = n ↔ (pl0 n ≤ (i 0).val ∧ (i 0).val < pl0 n + 112) ∧ (col0 n ≤ (i 1).val ∧ (i 1).val < col0 n + 128) := by
  have h0 : (i 0).val < 784 := (i 0).isLt
  have h1 : (i 1).val < 4992 := (i 1).isLt
  unfold unitOf pl0 col0; omega

/-- The block copy's elements are its unit's. -/
theorem oBk_set {n : ℕ} {off : Fin 2 → ℕ} (hoff : off = ![pl0 n, col0 n]) (inb : ∀ a, off a + S112x128.size a ≤ S784x4992.size a)
    {w : ℕ} (hw : n % 32 = w) : (oBk off inb).view.set ⊆ tileSet w := by
  subst hoff
  intro i hi
  have e : (oBk ![pl0 n, col0 n] inb).view.set = (Rect.unit (s := S784x4992) ![pl0 n, col0 n] S112x128.size inb).set := View.set_slice_whole _ _
  rw [e, Rect.mem_set_unit] at hi
  have hu : unitOf i = n := (unitOf_eq_iff i).mpr ⟨hi 0, hi 1⟩
  exact Finset.mem_filter.mpr ⟨Finset.mem_univ _, by rw [hu, hw]⟩

/-- A finished block copied out: the result is right on the block, and as it was elsewhere. -/
theorem block_lands {n : ℕ} {off : Fin 2 → ℕ} (hoff : off = ![pl0 n, col0 n]) (inb : ∀ a, off a + S112x128.size a ≤ S784x4992.size a)
    {ob : Vec F S112x128 .f32} (hob : Done X Lb (pl0 n) (col0 n) 112 0 ob) (f : Vec F S784x4992 .f32) (i : S784x4992.Idx) :
    (oBk off inb).view.write (Elt F) f (sO.view.read (Elt F) ob) Finset.univ i = if unitOf i = n then G X Lb i else f i := by
  subst hoff
  refine (congrFun (View.write_whole_slice_unit (Val := Elt F) main_v2_scv ![pl0 n, col0 n] S112x128.size inb f (sO.view.read (Elt F) ob)) i).trans ?_
  unfold updateSlice
  by_cases hu : unitOf i = n
  · have hr := (unitOf_eq_iff i).mp hu
    rw [if_pos hu, dif_pos (fun a => match a with | ⟨0, _⟩ => hr.1 | ⟨1, _⟩ => hr.2)]
    refine (congrFun (View.read_whole (Val := Elt F) _ _) _).trans ?_
    refine (hob _ (Or.inl (by show (i 0).val - pl0 n < 112; omega))).trans ?_
    show Gv X Lb (pl0 n + ((i 0).val - pl0 n)) (col0 n + ((i 1).val - col0 n)) = Gv X Lb (i 0).val (i 1).val
    rw [Nat.add_sub_cancel' hr.1.1, Nat.add_sub_cancel' hr.2.1]
  · rw [if_neg hu, dif_neg (fun hn => hu ((unitOf_eq_iff i).mpr ⟨hn 0, hn 1⟩))]

end

end Cert.Proof

end
-- ==== Proof.Group.lean ====
/-
  The vocabulary the launch theorem reads the program in, and the steps of one group of sixteen columns: the labels
  loaded (`wp_labels`), the gather with its check (`wp_gather`), the store (`wp_put`). Every group of the kernel, in either
  fetch buffer, is an instance of the three.
-/
module

public import proofs.«01_k».proof.Defs
public import proofs.«01_k».proof.Proof.Copies
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## A subcore's thread -/

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

section Group
variable [FloatOps F] (X : Vec F S784x81x5000 .f32) (Lb : Vec F S5000 .i32) (d : Dev nD) (i : grid0.Coords)

omit [FloatOps F] in
/-- The output block as a store's view addresses it. -/
theorem pts_sO_access (r : Rect S112x128) (f : Vec F S112x128 .f32) :
    ((sO.access r).loc (thr d i) ↦{fullShare} f : sProp 𝕄) = (sO.view.loc (thr d i) ↦{fullShare} f) := rfl

/-- Sixteen gathered values are those of plane `p`'s columns from `n` on, before the sigmoid. -/
def Got (p n : ℕ) (v : Vec F S16 .f32) : Prop := ∀ x : S16.Idx, sg (v x) = Gv X Lb p (n + (x 0).val)

/-- A group's labels, loaded. -/
theorem wp_labels {B : Vec F S128 .i32} {c o : ℕ} (hB : LabHolds Lb c B)
    {inb : ∀ a, (![o] : Fin 1 → ℕ) a + S16.size a ≤ S128.size a} {hl}
    {α : Type} {kont : Vec F S16 .i32 → Prog (TpuEff nD τ sig (Elt F) Λ₀ (thr d i).2) α} {Q : α → sProp 𝕄} :
    (sL.view.loc (thr d i) ↦{fullShare} B)
      ⊢ iprop((∀ v88 : Vec F S16 .i32, ⌜∀ x : S16.Idx, v88 x = Lb (lIdx (c + (o + (x 0).val)))⌝ -∗ (sL.view.loc (thr d i) ↦{fullShare} B)
          -∗ wp frame (wpE (defs₀ (F := F)) 𝒱₀ (thr d i) none) Set.univ (kont v88) Q)
        -∗ wp frame (wpE (defs₀ (F := F)) 𝒱₀ (thr d i) none) Set.univ
          (Prog.lift (.load sL (Rect.unit (s := S128) ![o] S16.size inb).toLoadRect hl) >>= kont) Q) := by
  have hr := lab_read Lb hB (inb := inb)
  simp only [Prog.lift, Prog.bind_op, Prog.bind_ret]
  iintro HL Hk
  iapply (wp_load 𝒱₀ (thr d i) none Set.univ (m := sL) (S := Finset.univ) (Finset.subset_univ _)) $$ HL; iintro HL
  iapply Hk
  · ipureintro; exact hr
  · iexact HL

/-- A group's gather from a fetch buffer at plane `p`: its check passes, and it reads that plane's values. -/
theorem wp_gather {base : Memref sig .scVector .vmem S88x128 .f32} {A : Buf (Elt F) ((base.access (.whole S88x128)).loc (thr d i))}
    {p c o : ℕ} (ho : o ≤ 112) (hL : ∀ n, (Lb n).toNat < 81) (hA : Fetched X p c ((base.access (.whole S88x128)).read (Elt F) A))
    {v88 v90 : IVec S16 32} (h88 : ∀ x : S16.Idx, v88 x = Lb (lIdx (c + (o + (x 0).val)))) (h90 : ∀ x, (v90 x).toNat = o + (x 0).val)
    {chk : Prop} (hchk : (∀ a x, ((![v88, v90] : Fin 2 → IVec S16 32) a x).toNat < S88x128.size a) → chk) {dec : Decidable chk}
    {hidx : chk → ∀ a x, ((![v88, v90] : Fin 2 → IVec S16 32) a x).toNat < S88x128.size a} {hlb : base.view.Loads}
    {α : Type} {kont : Vec F S16 .f32 → Prog (TpuEff nD τ sig (Elt F) Λ₀ (thr d i).2) α} {Q : α → sProp 𝕄} :
    ((base.access (.whole S88x128)).loc (thr d i) ↦{fullShare} A)
      ⊢ iprop((∀ v91 : Vec F S16 .f32, ⌜Got X Lb p (c + o) v91⌝ -∗ ((base.access (.whole S88x128)).loc (thr d i) ↦{fullShare} A)
          -∗ wp frame (wpE (defs₀ (F := F)) 𝒱₀ (thr d i) none) Set.univ (kont v91) Q)
        -∗ wp frame (wpE (defs₀ (F := F)) 𝒱₀ (thr d i) none) Set.univ
          (Prog.lift (.assume chk dec) >>= fun hw => SparseCore.vectorLoadIdx base ![v88, v90] (hidx hw.down) hlb >>= kont) Q) := by
  have hck := chk_ok (F := F) (c := c) Lb ho hL h88 h90
  simp only [Prog.lift, Prog.bind_op, Prog.bind_ret]
  rw [wp_assume_of _ _ _ _ (hchk hck)]
  iintro HA Hk
  iapply (SparseCore.wp_vectorLoadIdx 𝒱₀ (thr d i) none Set.univ (base := base) (S := Finset.univ) (q := fullShare) (Finset.subset_univ _)) $$ HA; iintro HA
  iapply Hk
  · ipureintro
    intro x
    rw [gather_val (F := F) X Lb hL hA h88 h90 _ x _ rfl, Nat.add_assoc]
  · iexact HA

/-- A group's store: the block finished up to column `o` of row `k` is finished up to column `o + 16`. -/
theorem wp_put {p c k o : ℕ} (ho : o ≤ 112) {v : Vec F S16 .f32} (hv : Got X Lb (p + k) (c + o) v)
    {off : Fin 2 → ℕ} (hoff : off = ![k, o]) {inb : ∀ a, off a + S1x16.size a ≤ S112x128.size a} {hl}
    {w : FVec F S16 .f32} (hw : ∀ x, w x = sg (v x)) {hc : S16.ShapeCasts S1x16} {hs1} {hs2}
    {α : Type} {kont : PUnit → Prog (TpuEff nD τ sig (Elt F) Λ₀ (thr d i).2) α} {Q : α → sProp 𝕄} :
    iprop(∃ ob, ⌜Done X Lb p c k o ob⌝ ∗ (sO.view.loc (thr d i) ↦{fullShare} ob))
      ⊢ iprop((iprop(∃ ob, ⌜Done X Lb p c k (o + 16) ob⌝ ∗ (sO.view.loc (thr d i) ↦{fullShare} ob))
          -∗ wp frame (wpE (defs₀ (F := F)) 𝒱₀ (thr d i) none) Set.univ (kont ⟨⟩) Q)
        -∗ wp frame (wpE (defs₀ (F := F)) 𝒱₀ (thr d i) none) Set.univ
          (Prog.lift (.load sO (Rect.unit (s := S112x128) off S1x16.size inb).toLoadRect hl) >>= fun _ =>
            Prog.lift (.store sO (Rect.unit (s := S112x128) off S1x16.size inb) (shapeCast S1x16 w hc) Finset.univ hs1 hs2) >>= kont) Q) := by
  simp only [Prog.lift, Prog.bind_op, Prog.bind_ret]
  iintro ⟨%ob, %hob, HO⟩ Hk
  iapply (wp_load 𝒱₀ (thr d i) none Set.univ (m := sO) (S := Finset.univ) (Finset.subset_univ _)) $$ HO; iintro HO
  ihave HO := (Entails.of_eq (pts_sO_access (F := F) d i (Rect.unit (s := S112x128) off S1x16.size inb) ob).symm) $$ HO
  iapply (wp_store 𝒱₀ (thr d i) none Set.univ (m := sO) (r := Rect.unit (s := S112x128) off S1x16.size inb) (Mk := Finset.univ) (S := Finset.univ) (Finset.subset_univ _)) $$ HO; iintro HO
  iapply Hk
  iexists _; isplitr; rotate_left
  · iexact HO
  · ipureintro
    exact done_step (F := F) X Lb (f := ob) ho hob hoff inb (fun x => (hw x).trans (hv x)) hc

end Group

end Cert.Proof

end
-- ==== Proof.Plane.lean ====
/-
  A plane's fetch on one subcore: what a fetch buffer is between the fetch's start and its wait (`ahead`), the start of a
  fetch (`wp_fetch`), the start under the loop's condition (`wp_prefetch`) and the wait (`wp_await`), each for either
  buffer.
-/
module

public import proofs.«01_k».proof.Proof.Group

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (X : Vec F S784x81x5000 .f32) (Lb : Vec F S5000 .i32) (d : Dev nD) (i : grid0.Coords) (q : PosShare TreeShare)

/-- The planes as a subcore holds them: a share, to read. -/
abbrev xPts : sProp 𝕄 := xV.view.loc (thr d i) ↦{q} X
/-- A fetch buffer whole, at contents `f`. -/
abbrev bPts (base : Memref sig .scVector .vmem S88x128 .f32) (f : Buf (Elt F) ((base.access (.whole S88x128)).loc (thr d i))) : sProp 𝕄 :=
  (base.access (.whole S88x128)).loc (thr d i) ↦{fullShare} f
/-- What a fetch buffer's rows read. -/
abbrev rd (base : Memref sig .scVector .vmem S88x128 .f32) (f : Buf (Elt F) ((base.access (.whole S88x128)).loc (thr d i))) : Vec F S88x128 .f32 :=
  (base.access (.whole S88x128)).read (Elt F) f

/-- What the fetch semaphore holds back before plane `k` of a unit is waited for: the buffer at that plane's rows and the
    planes' share; nothing under way once all 112 planes have been. -/
def ahead (base : Memref sig .scVector .vmem S88x128 .f32) (p c k : ℕ) : sProp 𝕄 :=
  if k < 112 then
    iprop(∃ A, ⌜Fetched X (p + k) c (rd d i base A)⌝
      ∗ Transfers.Flight EC (thr d i) (.dma cc0_scratch4.sem) (none : HIx 1) (top base).view.dmaCredit iprop(bPts d i base A ∗ xPts X d i q))
  else iprop((∃ f, bPts (F := F) d i base f) ∗ semVal (thr d i, SemLoc.dma cc0_scratch4.sem) 0 ∗ xPts X d i q)

theorem pts_top (base : Memref sig .scVector .vmem S88x128 .f32) (f : Buf (Elt F) ((base.access (.whole S88x128)).loc (thr d i))) :
    ((top base).view.loc (thr d i) ↦{fullShare} f : sProp 𝕄) = bPts d i base f := rfl
theorem pts_xPl (off : Fin 3 → ℕ) (inb : ∀ a, off a + S1x81x128.size a ≤ S784x81x5000.size a) :
    ((xPl off inb).view.loc (thr d i) ↦{q} X : sProp 𝕄) = xPts X d i q := rfl

/-- What a fetch into `base` lands: plane `p`'s rows from column `c` on. -/
def Lands (base : Memref sig .scVector .vmem S88x128 .f32) : Prop :=
  ∀ {p c : ℕ} {off : Fin 3 → ℕ} (_ : off = ![p, 0, c]) (inb : ∀ a, off a + S1x81x128.size a ≤ S784x81x5000.size a)
    (fd : Buf (Elt F) ((base.access (.whole S88x128)).loc (thr d i))),
    Fetched X p c (rd d i base ((top base).view.write (Elt F) fd ((xPl off inb).view.read (Elt F) X) Finset.univ))

theorem landsA : Lands X d i sA := by
  intro p c off hoff inb fd
  exact (congrArg (Fetched X p c) (Memref.read_access_whole (Val := Elt F) cc0_scratch1 _)).mpr (fetch_landsA X hoff inb fd)
theorem landsB : Lands X d i sB := by
  intro p c off hoff inb fd
  exact (congrArg (Fetched X p c) (Memref.read_access_whole (Val := Elt F) cc0_scratch2 _)).mpr (fetch_landsB X hoff inb fd)

/-- A fetch started: the buffer and the planes' share go to the semaphore. -/
theorem wp_fetch {base : Memref sig .scVector .vmem S88x128 .f32} (hland : Lands X d i base) {p c k : ℕ} (hk : k < 112) {off : Fin 3 → ℕ}
    (hoff : off = ![p + k, 0, c]) {inb : ∀ a, off a + S1x81x128.size a ≤ S784x81x5000.size a} {h1} {h2} {h3}
    {α : Type} {kont : PUnit → Prog (TpuEff nD τ sig (Elt F) Λ₀ (thr d i).2) α} {Q : α → sProp 𝕄} :
    iprop((∃ f, bPts (F := F) d i base f) ∗ semVal (thr d i, SemLoc.dma cc0_scratch4.sem) 0 ∗ xPts X d i q)
      ⊢ iprop((ahead X d i q base p c k -∗ wp frame (wpE (defs₀ (F := F)) 𝒱₀ (thr d i) none) Set.univ (kont ⟨⟩) Q)
        -∗ wp frame (wpE (defs₀ (F := F)) 𝒱₀ (thr d i) none) Set.univ
          (Prog.lift (.enqueueDma (xPl off inb) (.here (top base)) (.dma cc0_scratch4.sem) h1 h2 h3) >>= kont) Q) := by
  simp only [Prog.lift, Prog.bind_op, Prog.bind_ret]
  unfold ahead
  rw [if_pos hk]
  iintro ⟨⟨%f, Hb⟩, Hs, Hx⟩ Hk
  ihave Hb := (Entails.of_eq (pts_top (F := F) d i base f).symm) $$ Hb
  ihave Hx := (Entails.of_eq (pts_xPl X d i q off inb).symm) $$ Hx
  iapply (Transfers.wp_dmaFromWhole EC 𝒱₀ (thr d i) none (none : HIx 1) (top base).view.dmaCredit rfl (View.dmaCredit_pos _ (by decide)) (Finset.subset_univ _)) $$ [Hb Hs Hx]
  · isplitl [Hx]; · iexact Hx
    isplitl [Hb]; · iexact Hb
    iexact Hs
  iintro Hf
  iapply Hk
  iexists _; isplitr; rotate_left
  · iexact Hf
  · ipureintro
    exact hland hoff inb f

/-- The next plane's fetch, if there is a next plane. -/
theorem wp_prefetch {base : Memref sig .scVector .vmem S88x128 .f32} (hland : Lands X d i base) {p c k : ℕ} {cond : BitVec 1} (hcond : cond = 1#1 ↔ k < 112)
    {off : Fin 3 → ℕ} (hoff : off = ![p + k, 0, c]) {inb : cond = 1#1 → ∀ a, off a + S1x81x128.size a ≤ S784x81x5000.size a} {h1 : ∀ h, (xPl off (inb h)).view.WordExact} {h2} {h3}
    {α : Type} {rest : Prog (TpuEff nD τ sig (Elt F) Λ₀ (thr d i).2) α} {Q : α → sProp 𝕄} :
    iprop((∃ f, bPts (F := F) d i base f) ∗ semVal (thr d i, SemLoc.dma cc0_scratch4.sem) 0 ∗ xPts X d i q)
      ⊢ iprop((ahead X d i q base p c k -∗ wp frame (wpE (defs₀ (F := F)) 𝒱₀ (thr d i) none) Set.univ rest Q)
        -∗ wp frame (wpE (defs₀ (F := F)) 𝒱₀ (thr d i) none) Set.univ
          (if h : cond = 1#1 then
              (Prog.lift (.enqueueDma (xPl off (inb h)) (.here (top base)) (.dma cc0_scratch4.sem) (h1 h) h2 h3) >>= fun _ => rest)
            else rest) Q) := by
  by_cases h : cond = 1#1
  · rw [dif_pos h]
    exact wp_fetch X d i q hland (hcond.mp h) hoff (kont := fun _ => rest)
  · rw [dif_neg h]
    have e : ahead X d i q base p c k = iprop((∃ f, bPts (F := F) d i base f) ∗ semVal (thr d i, SemLoc.dma cc0_scratch4.sem) 0 ∗ xPts X d i q) :=
      if_neg fun hk => h (hcond.mpr hk)
    rw [e]
    iintro H Hk
    iapply Hk
    iexact H

/-- The wait for plane `k`: the buffer at that plane's rows, and the planes' share, back. -/
theorem wp_await {base : Memref sig .scVector .vmem S88x128 .f32} {p c k : ℕ} (hk : k < 112) {O : CellTallies nD τ sig (HIx 1)} {W : Waits sig (HIx 1)}
    {inb : ∀ a, (![0, 0, 0] : Fin 3 → ℕ) a + S1x81x128.size a ≤ S784x81x5000.size a} {h1} {h2}
    {α : Type} {kont : PUnit → Prog (TpuEff nD τ sig (Elt F) Λ₀ (thr d i).2) α} {Q : α → sProp 𝕄} :
    iprop(ahead X d i q base p c k ∗ Transfers.MayWaits (thr d i) (none : HIx 1) O ∗ ∃ W', ⌜∀ x ∈ W', x ∈ W ∨ x.2 = none⌝ ∗ owes (thr d i) O W')
      ⊢ iprop((iprop((∃ A, ⌜Fetched X (p + k) c (rd d i base A)⌝ ∗ bPts d i base A) ∗ semVal (thr d i, SemLoc.dma cc0_scratch4.sem) 0 ∗ xPts X d i q
            ∗ ∃ W', ⌜∀ x ∈ W', x ∈ W ∨ x.2 = none⌝ ∗ owes (thr d i) O W')
          -∗ wp frame (wpE (defs₀ (F := F)) 𝒱₀ (thr d i) none) Set.univ (kont ⟨⟩) Q)
        -∗ wp frame (wpE (defs₀ (F := F)) 𝒱₀ (thr d i) none) Set.univ
          (Prog.lift (.waitDma2 cc0_scratch4.sem (xPl ![0, 0, 0] inb) (top base) h1 h2) >>= kont) Q) := by
  simp only [Prog.lift, Prog.bind_op, Prog.bind_ret]
  unfold ahead
  rw [if_pos hk]
  iintro ⟨⟨%A, %hA, Hf⟩, #Hmw, %W', %hW', HO⟩ Hk
  iapply (Transfers.wp_waitLocalO EC 𝒱₀ (thr d i) none (none : HIx 1) (N := (top base).view.dmaCredit) rfl) $$ [Hf HO]
  · isplitl [Hf]; · iexact Hf
    isplitl [HO]; · iexact HO
    iapply (Transfers.MayWaits.elim (SemLoc.dma cc0_scratch4.sem)); iexact Hmw
  iintro ⟨⟨Hb, Hx⟩, Hs, HO⟩
  iapply Hk
  isplitl [Hb]
  · iexists A; isplitr
    · ipureintro; exact hA
    · iexact Hb
  isplitl [Hs]; · iexact Hs
  isplitl [Hx]; · iexact Hx
  iexists _; isplitr; rotate_left
  · iexact HO
  · ipureintro
    intro x hx
    rcases Finset.mem_insert.mp hx with hx | hx
    · exact .inr (hx ▸ rfl)
    · exact hW' x hx

end Cert.Proof

end
-- ==== Proof.PlaneStep.lean ====
/-
  The loop over a unit's 112 planes: its invariant and one trip. A trip is in one of the two fetch buffers by the plane's
  parity; the two branches are run by the same rules.
-/
module

public import proofs.«01_k».proof.Proof.Plane

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (X : Vec F S784x81x5000 .f32) (Lb : Vec F S5000 .i32) (d : Dev nD) (i : grid0.Coords) (q : PosShare TreeShare)

/-- The lanes' numbers, which the kernel takes once. -/
abbrev lanes : IVec S16 32 := iota .scVector S16 32 [0] iota_S16_d0_w32_scVector

/-- What a thread owes, with waits of this body recorded beyond `W`. -/
abbrev owed (O : CellTallies nD τ sig (HIx 1)) (W : Waits sig (HIx 1)) : sProp 𝕄 :=
  iprop(∃ W', ⌜∀ x ∈ W', x ∈ W ∨ x.2 = none⌝ ∗ owes (thr d i) O W')

/-- The two fetch buffers before plane `k`: the one of its parity at or under its fetch, the other at anything. -/
def bufs (p c k : ℕ) : sProp 𝕄 :=
  if k % 2 = 0 then iprop(ahead X d i q sA p c k ∗ ∃ f, bPts (F := F) d i sB f) else iprop(ahead X d i q sB p c k ∗ ∃ f, bPts (F := F) d i sA f)

/-- The plane loop's invariant before plane `k`: the block finished in its first `k` rows. -/
def planeInv (B : Vec F S128 .i32) (p c : ℕ) (O : CellTallies nD τ sig (HIx 1)) (W : Waits sig (HIx 1)) (k : ℕ) (_ : PUnit) : sProp 𝕄 :=
  iprop(Transfers.MayWaits (thr d i) (none : HIx 1) O ∗ (sL.view.loc (thr d i) ↦{fullShare} B)
    ∗ (∃ ob, ⌜Done X Lb p c k 0 ob⌝ ∗ (sO.view.loc (thr d i) ↦{fullShare} ob)) ∗ bufs X d i q p c k ∗ owed d i O W)

set_option maxHeartbeats 4000000 in
/-- A trip at an even plane: it stands in the first buffer, the next plane is started into the second. -/
theorem plane_even (hL : ∀ n, (Lb n).toNat < 81) {B : Vec F S128 .i32} {O : CellTallies nD τ sig (HIx 1)} {W : Waits sig (HIx 1)}
    (t1 : Fin k0_t1_loop.trips) (h1 : k0_cond1 i t1 = 1#1) (hB : LabHolds Lb (col0 (unitAt i t1.val)) B) (v39 : BitVec 32) (t2 : Fin k0_t2_loop.trips)
    (h2 : t2.val % 2 = 0) :
    planeInv X Lb d i q B (pl0 (unitAt i t1.val)) (col0 (unitAt i t1.val)) O W t2.val ⟨⟩
      ⊢ wp frame (wpE (defs₀ (F := F)) 𝒱₀ (thr d i) none) Set.univ
          (k0_t2_body i xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0 lanes t1 h1 v39 t2 ⟨⟩)
          (planeInv X Lb d i q B (pl0 (unitAt i t1.val)) (col0 (unitAt i t1.val)) O W (t2.val + 1)) := by
  have hk : t2.val < 112 := t2_lt t2
  have c : k0_cond2 t2 = 1#1 := (cond2_iff t2).mpr h2
  have c' : ¬ k0_cond4 t2 = 1#1 := fun h => by have := (cond4_iff t2).mp h; omega
  unfold k0_t2_body planeInv bufs
  rw [if_pos h2, if_neg (show ¬ (t2.val + 1) % 2 = 0 by omega), dif_pos c, dif_neg c']
  iintro ⟨#Hmw, HL, Hob, ⟨Hah, Hother⟩, How⟩
  rw [wp_bind, k0_part1_eq_skeleton]
  unfold k0_part1_skel
  iapply (wp_await X d i q (base := sA) hk) $$ [Hah How]
  · isplitl [Hah]; · iexact Hah
    isplitr; · iexact Hmw
    iexact How
  iintro ⟨⟨%A, %hA, Hb⟩, Hs, Hx, How⟩
  iapply (wp_prefetch X d i q (landsB X d i) (cond3_iff t2) (off3_eq i t1 t2 h1)) $$ [Hother Hs Hx]
  · isplitl [Hother]; · iexact Hother
    isplitl [Hs]; · iexact Hs
    iexact Hx
  iintro Hah
  dsimp -proj only
  iapply (wp_labels Lb d i (o := 0) hB) $$ HL; iintro %v0 %l0 HL
  iapply (wp_gather X Lb d i (base := sA) (o := 0) (by decide) hL hA l0 (fun x => cols_val 0 (by decide) x)
    (hidx := fun h => k0_idx1_inb i t1 t2 v0 (k0_pay5 lanes) h h1 c) (fun h _ _ => h)) $$ Hb; iintro %w0 %g0 Hb
  iapply (wp_put X Lb d i (by decide) g0 (k0_off4_eq t2) (w := k0_pay6 w0) (fun _ => rfl)) $$ Hob; iintro Hob
  iapply (wp_labels Lb d i (o := 16) hB) $$ HL; iintro %v1 %l1 HL
  iapply (wp_gather X Lb d i (base := sA) (o := 16) (by decide) hL hA l1 (fun x => cols_val 16 (by decide) x)
    (hidx := fun h => k0_idx2_inb i t1 t2 v1 (k0_pay7 lanes) h h1 c) (fun h _ _ => h)) $$ Hb; iintro %w1 %g1 Hb
  rw [wp_pure]; imodintro; beta_reduce
  rw [wp_bind, k0_part2_eq_skeleton]; unfold k0_part2_skel; dsimp -proj only
  iapply (wp_put X Lb d i (by decide) g1 (k0_off5_eq t2) (w := k0_pay9 (k0_pay8 w1)) (fun _ => rfl)) $$ Hob; iintro Hob
  iapply (wp_labels Lb d i (o := 32) hB) $$ HL; iintro %v2 %l2 HL
  iapply (wp_gather X Lb d i (base := sA) (o := 32) (by decide) hL hA l2 (fun x => cols_val 32 (by decide) x)
    (hidx := fun h => k0_idx3_inb i t1 t2 v2 (k0_pay10 lanes) h h1 c) (fun h _ _ => h)) $$ Hb; iintro %w2 %g2 Hb
  iapply (wp_put X Lb d i (by decide) g2 (k0_off6_eq t2) (w := k0_pay11 w2) (fun _ => rfl)) $$ Hob; iintro Hob
  iapply (wp_labels Lb d i (o := 48) hB) $$ HL; iintro %v3 %l3 HL
  iapply (wp_gather X Lb d i (base := sA) (o := 48) (by decide) hL hA l3 (fun x => cols_val 48 (by decide) x)
    (hidx := fun h => k0_idx4_inb i t1 t2 v3 (k0_pay12 lanes) h h1 c) (fun h _ _ => h)) $$ Hb; iintro %w3 %g3 Hb
  iapply (wp_put X Lb d i (by decide) g3 (k0_off7_eq t2) (w := k0_pay13 w3) (fun _ => rfl)) $$ Hob; iintro Hob
  iapply (wp_labels Lb d i (o := 64) hB) $$ HL; iintro %v4 %l4 HL
  iapply (wp_gather X Lb d i (base := sA) (o := 64) (by decide) hL hA l4 (fun x => cols_val 64 (by decide) x)
    (hidx := fun h => k0_idx5_inb i t1 t2 v4 (k0_pay14 lanes) h h1 c) (fun h _ _ => h)) $$ Hb; iintro %w4 %g4 Hb
  rw [wp_pure]; imodintro; beta_reduce
  rw [wp_bind, k0_part3_eq_skeleton]; unfold k0_part3_skel; dsimp -proj only
  iapply (wp_put X Lb d i (by decide) g4 (k0_off8_eq t2) (w := k0_pay15 w4 (Scalar.ofBits .f32 0x00000000#32)) (fun _ => rfl)) $$ Hob; iintro Hob
  iapply (wp_labels Lb d i (o := 80) hB) $$ HL; iintro %v5 %l5 HL
  iapply (wp_gather X Lb d i (base := sA) (o := 80) (by decide) hL hA l5 (fun x => cols_val 80 (by decide) x)
    (hidx := fun h => k0_idx6_inb i t1 t2 v5 (k0_pay16 lanes) h h1 c) (fun h _ _ => h)) $$ Hb; iintro %w5 %g5 Hb
  iapply (wp_put X Lb d i (by decide) g5 (k0_off9_eq t2) (w := k0_pay17 w5) (fun _ => rfl)) $$ Hob; iintro Hob
  iapply (wp_labels Lb d i (o := 96) hB) $$ HL; iintro %v6 %l6 HL
  iapply (wp_gather X Lb d i (base := sA) (o := 96) (by decide) hL hA l6 (fun x => cols_val 96 (by decide) x)
    (hidx := fun h => k0_idx7_inb i t1 t2 v6 (k0_pay18 lanes) h h1 c) (fun h _ _ => h)) $$ Hb; iintro %w6 %g6 Hb
  iapply (wp_put X Lb d i (by decide) g6 (k0_off10_eq t2) (w := k0_pay19 w6) (fun _ => rfl)) $$ Hob; iintro Hob
  iapply (wp_labels Lb d i (o := 112) hB) $$ HL; iintro %v7 %l7 HL
  first | rw [wp_ret] | rw [wp_pure]
  imodintro; beta_reduce
  iapply (wp_gather X Lb d i (base := sA) (o := 112) (by decide) hL hA l7 (fun x => cols_val 112 (by decide) x)
    (hidx := fun h => k0_idx8_inb i t1 t2 v7 k0_pay1 h h1 c) (fun h _ _ => h)) $$ Hb; iintro %w7 %g7 Hb
  iapply (wp_put X Lb d i (by decide) g7 (k0_off11_eq t2) (w := k0_pay2 w7) (fun _ => rfl)) $$ Hob; iintro Hob
  rw [wp_pure]; imodintro
  isplitr; · iexact Hmw
  isplitl [HL]; · iexact HL
  isplitl [Hob]
  · icases Hob with ⟨%ob, %hob, Hob⟩
    iexists ob
    isplitr; · ipureintro; exact hob.next
    iexact Hob
  isplitl [Hah Hb]
  · isplitl [Hah]; · iexact Hah
    iexists A; iexact Hb
  iexact How

set_option maxHeartbeats 4000000 in
/-- A trip at an odd plane: it stands in the second buffer, the next plane is started into the first. -/
theorem plane_odd (hL : ∀ n, (Lb n).toNat < 81) {B : Vec F S128 .i32} {O : CellTallies nD τ sig (HIx 1)} {W : Waits sig (HIx 1)}
    (t1 : Fin k0_t1_loop.trips) (h1 : k0_cond1 i t1 = 1#1) (hB : LabHolds Lb (col0 (unitAt i t1.val)) B) (v39 : BitVec 32) (t2 : Fin k0_t2_loop.trips)
    (h2 : t2.val % 2 = 1) :
    planeInv X Lb d i q B (pl0 (unitAt i t1.val)) (col0 (unitAt i t1.val)) O W t2.val ⟨⟩
      ⊢ wp frame (wpE (defs₀ (F := F)) 𝒱₀ (thr d i) none) Set.univ
          (k0_t2_body i xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0 lanes t1 h1 v39 t2 ⟨⟩)
          (planeInv X Lb d i q B (pl0 (unitAt i t1.val)) (col0 (unitAt i t1.val)) O W (t2.val + 1)) := by
  have hk : t2.val < 112 := t2_lt t2
  have c : k0_cond4 t2 = 1#1 := (cond4_iff t2).mpr h2
  have c' : ¬ k0_cond2 t2 = 1#1 := fun h => by have := (cond2_iff t2).mp h; omega
  unfold k0_t2_body planeInv bufs
  rw [if_neg (show ¬ t2.val % 2 = 0 by omega), if_pos (show (t2.val + 1) % 2 = 0 by omega), dif_neg c', dif_pos c]
  iintro ⟨#Hmw, HL, Hob, ⟨Hah, Hother⟩, How⟩
  rw [wp_bind, k0_part4_eq_skeleton]
  unfold k0_part4_skel
  iapply (wp_await X d i q (base := sB) hk) $$ [Hah How]
  · isplitl [Hah]; · iexact Hah
    isplitr; · iexact Hmw
    iexact How
  iintro ⟨⟨%A, %hA, Hb⟩, Hs, Hx, How⟩
  iapply (wp_prefetch X d i q (landsA X d i) (cond5_iff t2) (off12_eq i t1 t2 h1)) $$ [Hother Hs Hx]
  · isplitl [Hother]; · iexact Hother
    isplitl [Hs]; · iexact Hs
    iexact Hx
  iintro Hah
  dsimp -proj only
  iapply (wp_labels Lb d i (o := 0) hB) $$ HL; iintro %v0 %l0 HL
  iapply (wp_gather X Lb d i (base := sB) (o := 0) (by decide) hL hA l0 (fun x => cols_val 0 (by decide) x)
    (hidx := fun h => k0_idx9_inb i t1 t2 v0 (k0_pay20 lanes) h h1 c) (fun h _ _ => h)) $$ Hb; iintro %w0 %g0 Hb
  iapply (wp_put X Lb d i (by decide) g0 (k0_off13_eq t2) (w := k0_pay21 w0) (fun _ => rfl)) $$ Hob; iintro Hob
  iapply (wp_labels Lb d i (o := 16) hB) $$ HL; iintro %v1 %l1 HL
  iapply (wp_gather X Lb d i (base := sB) (o := 16) (by decide) hL hA l1 (fun x => cols_val 16 (by decide) x)
    (hidx := fun h => k0_idx10_inb i t1 t2 v1 (k0_pay22 lanes) h h1 c) (fun h _ _ => h)) $$ Hb; iintro %w1 %g1 Hb
  rw [wp_pure]; imodintro; beta_reduce
  rw [wp_bind, k0_part5_eq_skeleton]; unfold k0_part5_skel; dsimp -proj only
  iapply (wp_put X Lb d i (by decide) g1 (k0_off14_eq t2) (w := k0_pay24 (k0_pay23 w1)) (fun _ => rfl)) $$ Hob; iintro Hob
  iapply (wp_labels Lb d i (o := 32) hB) $$ HL; iintro %v2 %l2 HL
  iapply (wp_gather X Lb d i (base := sB) (o := 32) (by decide) hL hA l2 (fun x => cols_val 32 (by decide) x)
    (hidx := fun h => k0_idx11_inb i t1 t2 v2 (k0_pay25 lanes) h h1 c) (fun h _ _ => h)) $$ Hb; iintro %w2 %g2 Hb
  iapply (wp_put X Lb d i (by decide) g2 (k0_off15_eq t2) (w := k0_pay26 w2) (fun _ => rfl)) $$ Hob; iintro Hob
  iapply (wp_labels Lb d i (o := 48) hB) $$ HL; iintro %v3 %l3 HL
  iapply (wp_gather X Lb d i (base := sB) (o := 48) (by decide) hL hA l3 (fun x => cols_val 48 (by decide) x)
    (hidx := fun h => k0_idx12_inb i t1 t2 v3 (k0_pay27 lanes) h h1 c) (fun h _ _ => h)) $$ Hb; iintro %w3 %g3 Hb
  iapply (wp_put X Lb d i (by decide) g3 (k0_off16_eq t2) (w := k0_pay28 w3) (fun _ => rfl)) $$ Hob; iintro Hob
  iapply (wp_labels Lb d i (o := 64) hB) $$ HL; iintro %v4 %l4 HL
  iapply (wp_gather X Lb d i (base := sB) (o := 64) (by decide) hL hA l4 (fun x => cols_val 64 (by decide) x)
    (hidx := fun h => k0_idx13_inb i t1 t2 v4 (k0_pay29 lanes) h h1 c) (fun h _ _ => h)) $$ Hb; iintro %w4 %g4 Hb
  rw [wp_pure]; imodintro; beta_reduce
  rw [wp_bind, k0_part6_eq_skeleton]; unfold k0_part6_skel; dsimp -proj only
  iapply (wp_put X Lb d i (by decide) g4 (k0_off17_eq t2) (w := k0_pay30 w4 (Scalar.ofBits .f32 0x00000000#32)) (fun _ => rfl)) $$ Hob; iintro Hob
  iapply (wp_labels Lb d i (o := 80) hB) $$ HL; iintro %v5 %l5 HL
  iapply (wp_gather X Lb d i (base := sB) (o := 80) (by decide) hL hA l5 (fun x => cols_val 80 (by decide) x)
    (hidx := fun h => k0_idx14_inb i t1 t2 v5 (k0_pay31 lanes) h h1 c) (fun h _ _ => h)) $$ Hb; iintro %w5 %g5 Hb
  iapply (wp_put X Lb d i (by decide) g5 (k0_off18_eq t2) (w := k0_pay32 w5) (fun _ => rfl)) $$ Hob; iintro Hob
  iapply (wp_labels Lb d i (o := 96) hB) $$ HL; iintro %v6 %l6 HL
  iapply (wp_gather X Lb d i (base := sB) (o := 96) (by decide) hL hA l6 (fun x => cols_val 96 (by decide) x)
    (hidx := fun h => k0_idx15_inb i t1 t2 v6 (k0_pay33 lanes) h h1 c) (fun h _ _ => h)) $$ Hb; iintro %w6 %g6 Hb
  iapply (wp_put X Lb d i (by decide) g6 (k0_off19_eq t2) (w := k0_pay34 w6) (fun _ => rfl)) $$ Hob; iintro Hob
  iapply (wp_labels Lb d i (o := 112) hB) $$ HL; iintro %v7 %l7 HL
  first | rw [wp_ret] | rw [wp_pure]
  imodintro; beta_reduce
  iapply (wp_gather X Lb d i (base := sB) (o := 112) (by decide) hL hA l7 (fun x => cols_val 112 (by decide) x)
    (hidx := fun h => k0_idx16_inb i t1 t2 v7 k0_pay3 h h1 c) (fun h _ _ => h)) $$ Hb; iintro %w7 %g7 Hb
  iapply (wp_put X Lb d i (by decide) g7 (k0_off20_eq t2) (w := k0_pay4 w7) (fun _ => rfl)) $$ Hob; iintro Hob
  rw [wp_pure]; imodintro
  isplitr; · iexact Hmw
  isplitl [HL]; · iexact HL
  isplitl [Hob]
  · icases Hob with ⟨%ob, %hob, Hob⟩
    iexists ob
    isplitr; · ipureintro; exact hob.next
    iexact Hob
  isplitl [Hah Hb]
  · isplitl [Hah]; · iexact Hah
    iexists A; iexact Hb
  iexact How

/-- A trip of the plane loop. -/
theorem plane (hL : ∀ n, (Lb n).toNat < 81) {B : Vec F S128 .i32} {O : CellTallies nD τ sig (HIx 1)} {W : Waits sig (HIx 1)}
    (t1 : Fin k0_t1_loop.trips) (h1 : k0_cond1 i t1 = 1#1) (hB : LabHolds Lb (col0 (unitAt i t1.val)) B) (v39 : BitVec 32) (t2 : Fin k0_t2_loop.trips) :
    planeInv X Lb d i q B (pl0 (unitAt i t1.val)) (col0 (unitAt i t1.val)) O W t2.val ⟨⟩
      ⊢ wp frame (wpE (defs₀ (F := F)) 𝒱₀ (thr d i) none) Set.univ
          (k0_t2_body i xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0 lanes t1 h1 v39 t2 ⟨⟩)
          (planeInv X Lb d i q B (pl0 (unitAt i t1.val)) (col0 (unitAt i t1.val)) O W (t2.val + 1)) := by
  rcases Nat.mod_two_eq_zero_or_one t2.val with h2 | h2
  · exact plane_even X Lb d i q hL t1 h1 hB v39 t2 h2
  · exact plane_odd X Lb d i q hL t1 h1 hB v39 t2 h2

end Cert.Proof

end
-- ==== Proof.Unit.lean ====
/-
  One unit of a subcore's work: its labels copied in, the first plane's fetch, the loop over the planes, the finished
  block copied out; and the loop over a subcore's units, at the end of which its part of the result is right.
-/
module

public import proofs.«01_k».proof.Proof.PlaneStep

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (X : Vec F S784x81x5000 .f32) (Lb : Vec F S5000 .i32) (d : Dev nD) (i : grid0.Coords) (q q' : PosShare TreeShare)

/-- The labels in HBM as a subcore holds them: a share, to read. -/
abbrev lPts : sProp 𝕄 := lV.view.loc (thr d i) ↦{q'} Lb
/-- The number of a subcore among the thirty-two. -/
abbrev wid : ℕ := unitAt i 0
/-- A subcore's part of the result, at contents `f`. -/
abbrev oPts (f : Vec F S784x4992 .f32) : sProp 𝕄 := oV.view.loc (thr d i) ↦[tileSet (wid i)]{fullShare} f

/-- One more wait recorded, at the index the launch does not use. -/
theorem owed_insert {O : CellTallies nD τ sig (HIx 1)} {W W' : Waits sig (HIx 1)} (sm : SemLoc sig) (h : ∀ x ∈ W', x ∈ W ∨ x.2 = none) :
    (owes (thr d i) O (insert (sm, (none : HIx 1)) W') : sProp 𝕄) ⊢ owed d i O W := by
  iintro HO
  iexists _; isplitr; rotate_left
  · iexact HO
  · ipureintro
    intro x hx
    rcases Finset.mem_insert.mp hx with hx | hx
    · exact .inr (hx ▸ rfl)
    · exact h x hx

/-- The labels' copy and its wait: the label buffer at the unit's labels. -/
theorem wp_labels_in {O : CellTallies nD τ sig (HIx 1)} {W : Waits sig (HIx 1)} {c : ℕ} {off : Fin 1 → ℕ} (hoff : off = ![c])
    {inb : ∀ a, off a + S128.size a ≤ S5000.size a} {h1} {h2} {h3} {h4} {h5}
    {α : Type} {kont : PUnit → Prog (TpuEff nD τ sig (Elt F) Λ₀ (thr d i).2) α} {Q : α → sProp 𝕄} :
    iprop((∃ B, sL.view.loc (thr d i) ↦{fullShare} B) ∗ lPts Lb d i q' ∗ semVal (thr d i, SemLoc.dma cc0_scoped0.sem) 0
        ∗ Transfers.MayWaits (thr d i) (none : HIx 1) O ∗ owed d i O W)
      ⊢ iprop((∀ B, ⌜LabHolds Lb c B⌝ -∗ iprop((sL.view.loc (thr d i) ↦{fullShare} B) ∗ lPts Lb d i q' ∗ semVal (thr d i, SemLoc.dma cc0_scoped0.sem) 0 ∗ owed d i O W)
          -∗ wp frame (wpE (defs₀ (F := F)) 𝒱₀ (thr d i) none) Set.univ (kont ⟨⟩) Q)
        -∗ wp frame (wpE (defs₀ (F := F)) 𝒱₀ (thr d i) none) Set.univ
          (Prog.lift (.enqueueDma (lPc off inb) (.here sL) (.dma cc0_scoped0.sem) h1 h2 h3) >>= fun _ =>
            Prog.lift (.waitDma2 cc0_scoped0.sem (lPc off inb) sL h4 h5) >>= kont) Q) := by
  simp only [Prog.lift, Prog.bind_op, Prog.bind_ret]
  iintro ⟨⟨%B, HL⟩, Hl, Hs, #Hmw, %W', %hW', HO⟩ Hk
  iapply (Transfers.wp_dmaFromWhole EC 𝒱₀ (thr d i) none (none : HIx 1) sL.view.dmaCredit rfl (View.dmaCredit_pos _ (by decide)) (Finset.subset_univ _)) $$ [HL Hl Hs]
  · isplitl [Hl]; · iexact Hl
    isplitl [HL]; · iexact HL
    iexact Hs
  iintro Hf
  iapply (Transfers.wp_waitLocalO EC 𝒱₀ (thr d i) none (none : HIx 1) (N := sL.view.dmaCredit) rfl) $$ [Hf HO]
  · isplitl [Hf]; · iexact Hf
    isplitl [HO]; · iexact HO
    iapply (Transfers.MayWaits.elim (SemLoc.dma cc0_scoped0.sem)); iexact Hmw
  iintro ⟨⟨HL, Hl⟩, Hs, HO⟩
  iapply Hk $$ %(sL.view.write (Elt F) B ((lPc off inb).view.read (Elt F) Lb) Finset.univ) %(labels_land Lb hoff inb B)
  isplitl [HL]; · iexact HL
  isplitl [Hl]; · iexact Hl
  isplitl [Hs]; · iexact Hs
  iapply (owed_insert d i _ hW') $$ HO

/-- What is right of a subcore's part of the result before its unit `u`. -/
def upTo (u : ℕ) (f : Vec F S784x4992 .f32) : Prop := ∀ j ∈ tileSet (wid i), unitOf j < unitAt i u → f j = G X Lb j

/-- The finished block's copy and its wait: the subcore's part of the result right one unit further. -/
theorem wp_block_out {O : CellTallies nD τ sig (HIx 1)} {W : Waits sig (HIx 1)} {u : ℕ} {off : Fin 2 → ℕ}
    (hoff : off = ![pl0 (unitAt i u), col0 (unitAt i u)]) {inb : ∀ a, off a + S112x128.size a ≤ S784x4992.size a}
    {inb' : ∀ a, (![0, 0] : Fin 2 → ℕ) a + S112x128.size a ≤ S784x4992.size a} {h1} {h2} {h3} {h4} {h5}
    {α : Type} {kont : PUnit → Prog (TpuEff nD τ sig (Elt F) Λ₀ (thr d i).2) α} {Q : α → sProp 𝕄} :
    iprop((∃ ob, ⌜Done X Lb (pl0 (unitAt i u)) (col0 (unitAt i u)) 112 0 ob⌝ ∗ (sO.view.loc (thr d i) ↦{fullShare} ob))
        ∗ (∃ f, ⌜upTo X Lb i u f⌝ ∗ oPts d i f) ∗ semVal (thr d i, SemLoc.dma cc0_scratch5.sem) 0
        ∗ Transfers.MayWaits (thr d i) (none : HIx 1) O ∗ owed d i O W)
      ⊢ iprop((iprop((∃ ob, sO.view.loc (thr d i) ↦{fullShare} ob) ∗ (∃ f, ⌜upTo X Lb i (u + 1) f⌝ ∗ oPts d i f)
            ∗ semVal (thr d i, SemLoc.dma cc0_scratch5.sem) 0 ∗ owed d i O W)
          -∗ wp frame (wpE (defs₀ (F := F)) 𝒱₀ (thr d i) none) Set.univ (kont ⟨⟩) Q)
        -∗ wp frame (wpE (defs₀ (F := F)) 𝒱₀ (thr d i) none) Set.univ
          (Prog.lift (.enqueueDma sO (.here (oBk off inb)) (.dma cc0_scratch5.sem) h1 h2 h3) >>= fun _ =>
            Prog.lift (.waitDma2 cc0_scratch5.sem sO (oBk ![0, 0] inb') h4 h5) >>= kont) Q) := by
  simp only [Prog.lift, Prog.bind_op, Prog.bind_ret]
  iintro ⟨⟨%ob, %hob, Hb⟩, ⟨%f, %hf, Ho⟩, Hs, #Hmw, %W', %hW', HO⟩ Hk
  have hw : unitAt i u % 32 = wid i := by
    have h0 : (i 0).val < 2 := (i 0).isLt
    have h1 : (i 1).val < 16 := (i 1).isLt
    unfold wid unitAt; omega
  iapply (Transfers.wp_dmaFromWhole EC 𝒱₀ (thr d i) none (none : HIx 1) (src := sO) (dst := oBk off inb) (hsrc := h1) (hdst := h2) (hsem := h3)
    (Sd := tileSet (wid i)) (fd := f) (oBk off inb).view.dmaCredit rfl
    (View.dmaCredit_pos _ (by decide)) (oBk_set hoff inb hw)) $$ [Hb Ho Hs]
  · isplitl [Hb]; · iexact Hb
    isplitl [Ho]; · iexact Ho
    iexact Hs
  iintro Hf
  iapply (Transfers.wp_waitLocalO EC 𝒱₀ (thr d i) none (none : HIx 1) (srcw := sO) (dstw := oBk ![0, 0] inb') (hsrc := h4) (hdst := h5) (N := (oBk off inb).view.dmaCredit) rfl) $$ [Hf HO]
  · isplitl [Hf]; · iexact Hf
    isplitl [HO]; · iexact HO
    iapply (Transfers.MayWaits.elim (SemLoc.dma cc0_scratch5.sem)); iexact Hmw
  iintro ⟨⟨Ho, Hb⟩, Hs, HO⟩
  iapply Hk
  isplitl [Hb]; · iexists _; iexact Hb
  isplitl [Ho]
  · iexists _; isplitr; rotate_left
    · iexact Ho
    · ipureintro
      intro j hj hu
      refine (block_lands X Lb hoff inb hob f j).trans ?_
      by_cases e : unitOf j = unitAt i u
      · rw [if_pos e]
      · rw [if_neg e]
        refine hf j hj ?_
        have hm : unitOf j % 32 = wid i := (Finset.mem_filter.mp hj).2
        have h0 : (i 0).val < 2 := (i 0).isLt
        have h1 : (i 1).val < 16 := (i 1).isLt
        unfold wid unitAt at hm
        unfold unitAt at hu e ⊢
        omega
  isplitl [Hs]; · iexact Hs
  iapply (owed_insert d i _ hW') $$ HO

/-- After the last plane: the block finished, both fetch buffers free, no fetch under way. -/
theorem planes_done {B : Vec F S128 .i32} {p c : ℕ} {O : CellTallies nD τ sig (HIx 1)} {W : Waits sig (HIx 1)} {a : PUnit} :
    planeInv X Lb d i q B p c O W k0_t2_loop.trips a
      ⊢ iprop((sL.view.loc (thr d i) ↦{fullShare} B) ∗ (∃ ob, ⌜Done X Lb p c 112 0 ob⌝ ∗ (sO.view.loc (thr d i) ↦{fullShare} ob))
          ∗ (∃ f, bPts (F := F) d i sA f) ∗ semVal (thr d i, SemLoc.dma cc0_scratch4.sem) 0 ∗ xPts X d i q ∗ (∃ f, bPts (F := F) d i sB f) ∗ owed d i O W) := by
  rw [t2_trips]
  unfold planeInv bufs ahead
  rw [if_pos (show 112 % 2 = 0 from rfl), if_neg (show ¬ 112 < 112 by decide)]
  iintro ⟨-, HL, Hob, ⟨⟨Ha, Hg, Hx⟩, Hb⟩, How⟩
  isplitl [HL]; · iexact HL
  isplitl [Hob]; · iexact Hob
  isplitl [Ha]; · iexact Ha
  isplitl [Hg]; · iexact Hg
  isplitl [Hx]; · iexact Hx
  isplitl [Hb]; · iexact Hb
  iexact How

/-- The loop over a subcore's units, before unit `u`. -/
def unitInv (O : CellTallies nD τ sig (HIx 1)) (W : Waits sig (HIx 1)) (u : ℕ) (_ : PUnit) : sProp 𝕄 :=
  iprop(Transfers.MayWaits (thr d i) (none : HIx 1) O ∗ (∃ B, sL.view.loc (thr d i) ↦{fullShare} B) ∗ (∃ ob, sO.view.loc (thr d i) ↦{fullShare} ob)
    ∗ (∃ f, bPts (F := F) d i sA f) ∗ (∃ f, bPts (F := F) d i sB f)
    ∗ semVal (thr d i, SemLoc.dma cc0_scratch4.sem) 0 ∗ semVal (thr d i, SemLoc.dma cc0_scratch5.sem) 0 ∗ semVal (thr d i, SemLoc.dma cc0_scoped0.sem) 0
    ∗ xPts X d i q ∗ lPts Lb d i q' ∗ (∃ f, ⌜upTo X Lb i u f⌝ ∗ oPts d i f) ∗ owed d i O W)

set_option maxHeartbeats 4000000 in
/-- One unit. -/
theorem unit_step (hL : ∀ n, (Lb n).toNat < 81) {O : CellTallies nD τ sig (HIx 1)} {W : Waits sig (HIx 1)} (v1 : BitVec 32) (t1 : Fin k0_t1_loop.trips) :
    unitInv X Lb d i q q' O W t1.val ⟨⟩
      ⊢ wp frame (wpE (defs₀ (F := F)) 𝒱₀ (thr d i) none) Set.univ
          (k0_t1_body i xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0 v1 lanes t1 ⟨⟩)
          (unitInv X Lb d i q q' O W (t1.val + 1)) := by
  unfold k0_t1_body unitInv
  iintro ⟨#Hmw, HL, Hob, Ha, Hb, Hg, Ho, Hc, Hx, Hl, Hout, How⟩
  by_cases h1 : k0_cond1 i t1 = 1#1
  · rw [dif_pos h1, wp_bind, k0_part7_eq_skeleton]
    unfold k0_part7_skel
    dsimp -proj only
    iapply (wp_labels_in Lb d i q' (off1_eq i t1 h1)) $$ [HL Hl Hc How]
    · isplitl [HL]; · iexact HL
      isplitl [Hl]; · iexact Hl
      isplitl [Hc]; · iexact Hc
      isplitr; · iexact Hmw
      iexact How
    iintro %B %hB ⟨HL, Hl, Hc, How⟩
    rw [wp_pure]; imodintro; beta_reduce
    iapply (wp_fetch X d i q (landsA X d i) (p := pl0 (unitAt i t1.val)) (c := col0 (unitAt i t1.val)) (k := 0) (by decide) (off2_eq i t1 h1)) $$ [Ha Hg Hx]
    · isplitl [Ha]; · iexact Ha
      isplitl [Hg]; · iexact Hg
      iexact Hx
    iintro Hah
    sl_for (planeInv X Lb d i q B (pl0 (unitAt i t1.val)) (col0 (unitAt i t1.val)) O W) $$ [HL Hob Hah Hb How]
    case region =>
      intro t2 _
      exact plane X Lb d i q hL t1 h1 hB _ t2
    · unfold planeInv bufs
      rw [if_pos (show 0 % 2 = 0 from rfl)]
      isplitr; · iexact Hmw
      isplitl [HL]; · iexact HL
      isplitl [Hob]
      · icases Hob with ⟨%ob, Hob⟩
        iexists ob; isplitr
        · ipureintro; exact Done.zero X Lb ob
        · iexact Hob
      isplitl [Hah Hb]
      · isplitl [Hah]; · iexact Hah
        iexact Hb
      iexact How
    iintro %_ HI
    ihave HI' := (planes_done X Lb d i q) $$ HI
    icases HI' with ⟨HL, Hob, Ha, Hg, Hx, Hb, How⟩
    iapply (wp_block_out X Lb d i (u := t1.val) (off21_eq i t1 h1)) $$ [Hob Hout Ho How]
    · isplitl [Hob]; · iexact Hob
      isplitl [Hout]; · iexact Hout
      isplitl [Ho]; · iexact Ho
      isplitr; · iexact Hmw
      iexact How
    iintro ⟨Hob, Hout, Ho, How⟩
    rw [wp_pure]; imodintro
    isplitr; · iexact Hmw
    isplitl [HL]; · iexists B; iexact HL
    isplitl [Hob]; · iexact Hob
    isplitl [Ha]; · iexact Ha
    isplitl [Hb]; · iexact Hb
    isplitl [Hg]; · iexact Hg
    isplitl [Ho]; · iexact Ho
    isplitl [Hc]; · iexact Hc
    isplitl [Hx]; · iexact Hx
    isplitl [Hl]; · iexact Hl
    isplitl [Hout]; · iexact Hout
    iexact How
  · rw [dif_neg h1, wp_pure]; imodintro
    isplitr; · iexact Hmw
    isplitl [HL]; · iexact HL
    isplitl [Hob]; · iexact Hob
    isplitl [Ha]; · iexact Ha
    isplitl [Hb]; · iexact Hb
    isplitl [Hg]; · iexact Hg
    isplitl [Ho]; · iexact Ho
    isplitl [Hc]; · iexact Hc
    isplitl [Hx]; · iexact Hx
    isplitl [Hl]; · iexact Hl
    isplitl [Hout]
    · icases Hout with ⟨%f, %hf, Hout⟩
      iexists f; isplitr
      · ipureintro
        intro j hj _
        have hn : ¬ unitAt i t1.val < 273 := fun h => h1 ((cond1_iff i t1).mpr h)
        exact hf j hj (by have := unitOf_lt j; omega)
      · iexact Hout
    iexact How

end Cert.Proof

end
-- ==== Proof.Launch.lean ====
/-
  The kernel on one subcore from the launch's hand-over to its return (`tile_body`), and what the launch theorem asks of
  the call: each subcore gets a share of the planes and of the labels and its own part of the result whole, and brings
  them back with that part right.
-/
module

public import proofs.«01_k».proof.Proof.Unit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own buffers and semaphores -/

section Own
variable (d : Dev nD) (i : grid0.Coords)

abbrev gCell : GSem nD τ sig := (thr d i, .dma cc0_scratch4.sem)
abbrev oCell : GSem nD τ sig := (thr d i, .dma cc0_scratch5.sem)
abbrev lCell : GSem nD τ sig := (thr d i, .dma cc0_scoped0.sem)

theorem ownSems0_tile :
    (ownSems0 (thr d i) : sProp 𝕄)
      = iprop(semVal (gCell d i) 0 ∗ semVal (oCell d i) 0 ∗ semVal (lCell d i) 0
          ∗ bigSep ((((ownCells (thr d i)).erase (gCell d i)).erase (oCell d i)).erase (lCell d i)) fun g => semVal g 0) := by
  unfold SparseCore.Cfg.ownSems0
  rw [SparseCore.bigSep_erase' ((mem_ownCells (g := gCell d i)).mpr ⟨rfl, by
      show (SemLoc.dma cc0_scratch4.sem : SemLoc sig).isScoped .scVector = true; decide⟩),
    SparseCore.bigSep_erase' (Finset.mem_erase.mpr ⟨by simp [gCell, oCell]; decide, (mem_ownCells (g := oCell d i)).mpr ⟨rfl, by
      show (SemLoc.dma cc0_scratch5.sem : SemLoc sig).isScoped .scVector = true; decide⟩⟩),
    SparseCore.bigSep_erase' (Finset.mem_erase.mpr ⟨by simp [oCell, lCell]; decide, Finset.mem_erase.mpr ⟨by simp [gCell, lCell]; decide,
      (mem_ownCells (g := lCell d i)).mpr ⟨rfl, by show (SemLoc.dma cc0_scoped0.sem : SemLoc sig).isScoped .scVector = true; decide⟩⟩⟩)]

/-- A subcore's buffer as a reference of the device. -/
abbrev ref (b : Ref sig .scVector) : DevRef τ sig := (Proc.scVector (cV i) (jV i)).devRef b

theorem ref_ne {a b : Ref sig .scVector} (h : a ≠ b) : ref i a ≠ ref i b := fun e => h (Proc.devRef_injective _ e)

theorem ownBufs_tile :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (jV i))).erase (ref i cc0_scratch0)).erase (ref i cc0_scratch1)).erase (ref i cc0_scratch2)).erase
              (ref i cc0_scratch3)) fun b => iprop(∃ f, ((d, b) : Loc nD τ sig) ↦{fullShare} f)) := by
  have own : ∀ b : Ref sig .scVector, (ref i b).owner = .proc (Proc.scVector (cV i) (jV i)) → ref i b ∈ ownRefs (τ := τ) (.scVector (cV i) (jV i)) :=
    fun b h => SparseCore.Cfg.mem_ownRefs_of_owner (p := Proc.scVector (cV i) (jV i)) (b := ref i b) h
  unfold SparseCore.Cfg.ownBufs
  refine (SparseCore.bigSep_erase' (SparseCore.Cfg.mem_ownRefs_of_owner (p := Proc.scVector (cV i) (jV i)) (b := ref i cc0_scratch0) rfl)).trans ?_
  rw [SparseCore.bigSep_erase' (Finset.mem_erase.mpr ⟨ref_ne i (show cc0_scratch1 ≠ cc0_scratch0 by decide), own cc0_scratch1 rfl⟩),
    SparseCore.bigSep_erase' (Finset.mem_erase.mpr ⟨ref_ne i (show cc0_scratch2 ≠ cc0_scratch1 by decide),
      Finset.mem_erase.mpr ⟨ref_ne i (show cc0_scratch2 ≠ cc0_scratch0 by decide), own cc0_scratch2 rfl⟩⟩),
    SparseCore.bigSep_erase' (Finset.mem_erase.mpr ⟨ref_ne i (show cc0_scratch3 ≠ cc0_scratch2 by decide),
      Finset.mem_erase.mpr ⟨ref_ne i (show cc0_scratch3 ≠ cc0_scratch1 by decide),
        Finset.mem_erase.mpr ⟨ref_ne i (show cc0_scratch3 ≠ cc0_scratch0 by decide), own cc0_scratch3 rfl⟩⟩⟩)]

/-- A scratch buffer as the body's rules address it. -/
theorem pts_sL (f : Buf (Elt F) ((thr d i).loc cc0_scratch0)) : (sL.view.loc (thr d i) ↦{fullShare} f : sProp 𝕄) = (thr d i).loc cc0_scratch0 ↦{fullShare} f := rfl
theorem pts_sA (f : Buf (Elt F) ((thr d i).loc cc0_scratch1)) : (bPts d i sA f : sProp 𝕄) = (thr d i).loc cc0_scratch1 ↦{fullShare} f := rfl
theorem pts_sB (f : Buf (Elt F) ((thr d i).loc cc0_scratch2)) : (bPts d i sB f : sProp 𝕄) = (thr d i).loc cc0_scratch2 ↦{fullShare} f := rfl
theorem pts_sO (f : Buf (Elt F) ((thr d i).loc cc0_scratch3)) : (sO.view.loc (thr d i) ↦{fullShare} f : sProp 𝕄) = (thr d i).loc cc0_scratch3 ↦{fullShare} f := rfl

end Own

/-! ## The kernel on one subcore -/

section Tile
variable [FloatOps F] (X : Vec F S784x81x5000 .f32) (Lb : Vec F S5000 .i32) (o₀ : Vec F S784x4992 .f32) (d : Dev nD) (i : grid0.Coords) (q q' : PosShare TreeShare)

/-- After the last unit a subcore's part of the result is the kernel's result. -/
theorem upTo_all {f : Vec F S784x4992 .f32} (h : upTo X Lb i 9 f) : (oPts d i f : sProp 𝕄) = oPts d i (G X Lb) :=
  pointsTo_congr fun j hj => h j hj (by have := unitOf_lt j; unfold unitAt; omega)

set_option maxHeartbeats 1000000 in
theorem tile_body (hF : (K (F := F)).Facts) (hL : ∀ n, (Lb n).toNat < 81) (O : CellTallies nD τ sig (HIx 1)) (W : Waits sig (HIx 1)) (hO : ∀ g, O g none = 0) :
    iprop(levAts (K (F := F)).L (K (F := F)).lev ∗ emp ∗ (xPts X d i q ∗ lPts Lb d i q' ∗ oPts d i o₀)
        ∗ scopedBufs (thr d i) ∗ scopedSems0 (thr d i) ∗ owes (thr d i) O W)
      ⊢ wp frame (wpE (defs₀ (F := F)) 𝒱₀ (thr d i) none) Set.univ
          (cc0__sc_body i xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0)
          fun _ => iprop((xPts X d i q ∗ lPts Lb d i q' ∗ oPts d i (G X Lb)) ∗ scopedBufs (thr d i) ∗ scopedSems0 (thr d i)
            ∗ ∃ W', ⌜∀ p ∈ W', p ∈ W ∨ p.2 = none⌝ ∗ owes (thr d i) O W') := by
  rw [cc0__sc_body_eq_skeleton]; unfold cc0__sc_body_skel
  rw [(K (F := F)).scopedBufs_V hF d (cV i) (jV i), SparseCore.Cfg.scopedSems0_V (Val := Elt F) d (cV i) (jV i), ownSems0_tile, ownBufs_tile]
  iintro ⟨#Hlv, -, ⟨Hx, Hl, Ho⟩, ⟨⟨%fl, HL⟩, ⟨%fa, Ha⟩, ⟨%fb, Hb⟩, ⟨%fo, Hob⟩, Hbufs⟩, ⟨Hg, Hos, Hc, Hsems⟩, HO⟩
  ihave Hmw := ((K (F := F)).mayWaits_none (thr := thr d i) hO) $$ Hlv
  ihave HL := (Entails.of_eq (pts_sL (F := F) d i fl).symm) $$ HL
  ihave Ha := (Entails.of_eq (pts_sA (F := F) d i fa).symm) $$ Ha
  ihave Hb := (Entails.of_eq (pts_sB (F := F) d i fb).symm) $$ Hb
  ihave Hob := (Entails.of_eq (pts_sO (F := F) d i fo).symm) $$ Hob
  dsimp -proj only
  sl_for (unitInv X Lb d i q q' O W) $$ [Hmw HL Hob Ha Hb Hg Hos Hc Hx Hl Ho HO]
  case region =>
    intro t1 _
    exact unit_step X Lb d i q q' hL _ t1
  · unfold unitInv
    isplitl [Hmw]; · iexact Hmw
    isplitl [HL]; · iexists _; iexact HL
    isplitl [Hob]; · iexists _; iexact Hob
    isplitl [Ha]; · iexists _; iexact Ha
    isplitl [Hb]; · iexists _; iexact Hb
    isplitl [Hg]; · iexact Hg
    isplitl [Hos]; · iexact Hos
    isplitl [Hc]; · iexact Hc
    isplitl [Hx]; · iexact Hx
    isplitl [Hl]; · iexact Hl
    isplitl [Ho]
    · iexists o₀; isplitr; rotate_left
      · iexact Ho
      · ipureintro
        intro j hj hu
        have hm : unitOf j % 32 = wid i := (Finset.mem_filter.mp hj).2
        have h0 : (i 0).val < 2 := (i 0).isLt
        have h1 : (i 1).val < 16 := (i 1).isLt
        unfold wid at hm
        unfold unitAt at hm hu
        omega
    iexists W; isplitr
    · ipureintro; exact fun p hp => .inl hp
    · iexact HO
  iintro %_ HI
  rw [show Scf.trips k0_t1_loop.lb k0_t1_loop.ub k0_t1_loop.st = 9 from t1_trips]
  unfold unitInv
  icases HI with ⟨-, ⟨%fl', HL⟩, ⟨%fo', Hob⟩, ⟨%fa', Ha⟩, ⟨%fb', Hb⟩, Hg, Hos, Hc, Hx, Hl, ⟨%f, %hf, Ho⟩, HO⟩
  ihave Ho := (Entails.of_eq (upTo_all X Lb d i hf)) $$ Ho
  sl_step
  isplitl [Hx Hl Ho]
  · isplitl [Hx]; · iexact Hx
    isplitl [Hl]; · iexact Hl
    iexact Ho
  isplitl [HL Ha Hb Hob Hbufs]
  · isplitl [HL]; · iexists _; iexact HL
    isplitl [Ha]; · iexists _; iexact Ha
    isplitl [Hb]; · iexists _; iexact Hb
    isplitl [Hob]; · iexists _; iexact Hob
    iexact Hbufs
  isplitl [Hg Hos Hc Hsems]
  · isplitl [Hg]; · iexact Hg
    isplitl [Hos]; · iexact Hos
    isplitl [Hc]; · iexact Hc
    iexact Hsems
  iexact HO

end Tile

/-! ## What the call carries -/

/-- The planes, the labels, the result, as locations of device `d`. -/
abbrev vLoc (d : Dev nD) : Loc nD τ sig := (SparseCore.T d).loc main_v1
abbrev lLoc (d : Dev nD) : Loc nD τ sig := (SparseCore.T d).loc main_arg1
abbrev oLoc (d : Dev nD) : Loc nD τ sig := (SparseCore.T d).loc main_v2

/-- The share of a buffer that is read: a SparseCore's, and within it a subcore's. -/
def shC (c : Fin 2) : PosShare TreeShare := Transfers.dealOf fullShare Finset.univ c
def shT (c : Fin 2) (i : Fin 16) : PosShare TreeShare := Transfers.dealOf (shC c) Finset.univ i
/-- The elements of the result a SparseCore's subcores write. -/
def coreSet (c : Fin 2) : Finset S784x4992.Idx := (Finset.univ : Finset (Fin 16)).biUnion fun i => tileSet (2 * i.val + c.val)

theorem tileSet_disjoint {w w' : ℕ} (h : w ≠ w') : Disjoint (tileSet w) (tileSet w') :=
  Finset.disjoint_left.mpr fun _ h1 h2 => h ((Finset.mem_filter.mp h1).2.symm.trans (Finset.mem_filter.mp h2).2)

theorem tiles_disjoint (c : Fin 2) : ∀ i ∈ (Finset.univ : Finset (Fin 16)), ∀ j ∈ (Finset.univ : Finset (Fin 16)), i ≠ j →
    Disjoint (tileSet (2 * i.val + c.val)) (tileSet (2 * j.val + c.val)) :=
  fun i _ j _ h => tileSet_disjoint fun e => h (Fin.ext (by omega))

theorem cores_disjoint : ∀ a ∈ (Finset.univ : Finset (Fin 2)), ∀ b ∈ (Finset.univ : Finset (Fin 2)), a ≠ b → Disjoint (coreSet a) (coreSet b) := by
  intro a _ b _ h
  refine Finset.disjoint_left.mpr fun x h1 h2 => h (Fin.ext ?_)
  obtain ⟨i, -, h1⟩ := Finset.mem_biUnion.mp h1
  obtain ⟨j, -, h2⟩ := Finset.mem_biUnion.mp h2
  have e := (Finset.mem_filter.mp h1).2.symm.trans (Finset.mem_filter.mp h2).2
  omega

theorem cores_cover : (Finset.univ : Finset (Fin 2)).biUnion coreSet = Finset.univ := by
  refine Finset.eq_univ_iff_forall.mpr fun x => ?_
  have hw : unitOf x % 32 < 32 := Nat.mod_lt _ (by decide)
  refine Finset.mem_biUnion.mpr ⟨⟨unitOf x % 32 % 2, Nat.mod_lt _ (by decide)⟩, Finset.mem_univ _, Finset.mem_biUnion.mpr
    ⟨⟨unitOf x % 32 / 2, by omega⟩, Finset.mem_univ _, Finset.mem_filter.mpr ⟨Finset.mem_univ _, ?_⟩⟩⟩
  show unitOf x % 32 = 2 * (unitOf x % 32 / 2) + unitOf x % 32 % 2
  omega

section Carried
variable (X : Dev nD → Vec F S784x81x5000 .f32) (Lb : Dev nD → Vec F S5000 .i32) (o : Dev nD → Vec F S784x4992 .f32)

/-- What one subcore, one SparseCore, the whole call carries, the result at `o`. -/
def tileHas (d : Dev nD) (c : Fin 2) (i : Fin 16) : sProp 𝕄 :=
  iprop((vLoc d ↦{shT c i} X d) ∗ (lLoc d ↦{shT c i} Lb d) ∗ oLoc d ↦[tileSet (2 * i.val + c.val)]{fullShare} o d)
def coreHas (d : Dev nD) (c : Fin 2) : sProp 𝕄 :=
  iprop((vLoc d ↦{shC c} X d) ∗ (lLoc d ↦{shC c} Lb d) ∗ oLoc d ↦[coreSet c]{fullShare} o d)
def callHas (d : Dev nD) : sProp 𝕄 := iprop((vLoc d ↦{fullShare} X d) ∗ (lLoc d ↦{fullShare} Lb d) ∗ oLoc d ↦{fullShare} o d)

instance tileHas_storable (d : Dev nD) (c : Fin 2) (i : Fin 16) : BI.Storable (upEmb : UEmb _ 𝕄) (tileHas X Lb o d c i) := by
  unfold tileHas; infer_instance
instance coreHas_storable (d : Dev nD) (c : Fin 2) : BI.Storable (upEmb : UEmb _ 𝕄) (coreHas X Lb o d c) := by
  unfold coreHas; infer_instance

theorem coreHas_tiles (d : Dev nD) (c : Fin 2) : coreHas X Lb o d c = bigSep Finset.univ fun i : Fin 16 => tileHas X Lb o d c i := by
  unfold coreHas tileHas shT coreSet
  rw [bigSep_sep', bigSep_sep', Transfers.pointsTo_deal (ℓ := vLoc d) (Finset.univ : Finset (Fin 16)) Finset.univ_nonempty (shC c),
    Transfers.pointsTo_deal (ℓ := lLoc d) (Finset.univ : Finset (Fin 16)) Finset.univ_nonempty (shC c),
    pointsTo_biUnion (Finset.univ : Finset (Fin 16)) (ℓ := oLoc d) (fun i : Fin 16 => tileSet (2 * i.val + c.val)) (tiles_disjoint c)]

theorem callHas_cores (d : Dev nD) : callHas X Lb o d = bigSep Finset.univ fun c : Fin 2 => coreHas X Lb o d c := by
  unfold callHas coreHas shC
  rw [bigSep_sep', bigSep_sep', ← Transfers.pointsTo_deal (ℓ := vLoc d) (Finset.univ : Finset (Fin 2)) Finset.univ_nonempty fullShare,
    ← Transfers.pointsTo_deal (ℓ := lLoc d) (Finset.univ : Finset (Fin 2)) Finset.univ_nonempty fullShare,
    ← pointsTo_biUnion (Finset.univ : Finset (Fin 2)) (ℓ := oLoc d) coreSet cores_disjoint, cores_cover]

end Carried

section Obligations
variable [FloatOps F] (X : Dev nD → Vec F S784x81x5000 .f32) (Lb : Dev nD → Vec F S5000 .i32) (o₀ : Dev nD → Vec F S784x4992 .f32)

theorem nCore_two : (K (F := F)).nCore 0 = 2 := rfl
theorem nSub_sixteen : (K (F := F)).nSub 0 = 16 := rfl

/-- The kernel's result on every device. -/
abbrev GD (d : Dev nD) : Vec F S784x4992 .f32 := G (X d) (Lb d)

/-- The call's payloads: out, the result at `o₀`; back, at the kernel's result. -/
def P : (K (F := F)).Pay (nD := nD) (Val := Elt F) (Name := ℕ) (U := UU) where
  st := fun q d c => match q with | 0 => coreHas X Lb o₀ d (Fin.cast nCore_two c)
  dn := fun q d c => match q with | 0 => coreHas X Lb (GD X Lb) d (Fin.cast nCore_two c)
  go := fun q d c i => match q with | 0 => tileHas X Lb o₀ d (Fin.cast nCore_two c) (Fin.cast nSub_sixteen i)
  td := fun q d c i => match q with | 0 => tileHas X Lb (GD X Lb) d (Fin.cast nCore_two c) (Fin.cast nSub_sixteen i)
  x := fun _ _ => iprop(emp)

instance P_storable : (P X Lb o₀).IsStorable where
  st q d c := match q with | 0 => (inferInstance : BI.Storable (upEmb : UEmb _ 𝕄) (coreHas X Lb o₀ d (Fin.cast nCore_two c)))
  dn q d c := match q with | 0 => (inferInstance : BI.Storable (upEmb : UEmb _ 𝕄) (coreHas X Lb (GD X Lb) d (Fin.cast nCore_two c)))
  go q d c i := match q with | 0 => (inferInstance : BI.Storable (upEmb : UEmb _ 𝕄) (tileHas X Lb o₀ d (Fin.cast nCore_two c) (Fin.cast nSub_sixteen i)))
  td q d c i := match q with | 0 => (inferInstance : BI.Storable (upEmb : UEmb _ 𝕄) (tileHas X Lb (GD X Lb) d (Fin.cast nCore_two c) (Fin.cast nSub_sixteen i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) lV (Memref.isWhole_whole _) oV (Memref.isWhole_whole _) sL (Memref.isWhole_whole _)
            sA (Memref.isWhole_whole _) sB (Memref.isWhole_whole _) sO (Memref.isWhole_whole _) cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hL : ∀ d n, (Lb d n).toNat < 81) : (K (F := F)).TileObl (D (F := F)) 𝒱 (P X Lb o₀) v₀ 0 := by
  intro d c i O W hO _ _
  simp only [show (P X Lb o₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := (tile_body (X d) (Lb d) (o₀ d) d (coordsV ⟨_, hc.1⟩ ⟨_, hc.2⟩) (shT (Fin.cast nCore_two c) (Fin.cast nSub_sixteen i))
    (shT (Fin.cast nCore_two c) (Fin.cast nSub_sixteen i)) facts (hL d) O W hO).trans (wp_mono frame _ _ fun _ => obl_post (q := 0))
  generalize cc0__sc_body (F := F) _ _ _ _ _ _ _ _ _ _ _ _ _ _ _ _ _ _ = prog at hb ⊢
  exact hb

theorem vecSplit : (K (F := F)).VecSplit' (P X Lb o₀) 0 := by
  intro d c
  show coreHas X Lb o₀ d (Fin.cast nCore_two c) ⊢ |={Set.univ}=> iprop(
      (bigSep Finset.univ fun i : Fin 16 => tileHas X Lb o₀ d (Fin.cast nCore_two c) i)
      ∗ ((bigSep Finset.univ fun i : Fin 16 => tileHas X Lb (GD X Lb) d (Fin.cast nCore_two c) i) -∗ coreHas X Lb (GD X Lb) d (Fin.cast nCore_two c)))
  rw [← coreHas_tiles, ← coreHas_tiles]
  iintro H; imodintro
  isplitl [H]; · iexact H
  iintro H; iexact H

/-- What the call takes whole, and what it hands back. -/
theorem call_in (d : Dev nD) : (bigSep Finset.univ fun c : Fin ((K (F := F)).nCore 0) => (P X Lb o₀).st 0 d c) = callHas X Lb o₀ d :=
  (callHas_cores X Lb o₀ d).symm
theorem call_out (d : Dev nD) : (bigSep Finset.univ fun c : Fin ((K (F := F)).nCore 0) => (P X Lb o₀).dn 0 d c) = callHas X Lb (GD X Lb) d :=
  (callHas_cores X Lb (GD X Lb) d).symm

/-! ## The launch element: the handshakes' rounds; nothing of the kernel's own -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Lb o₀).x q thr) := by
  unfold u₀
  iintro Hu
  ihave H := (ownU_pair _ _) $$ Hu
  icases H with ⟨HH, -⟩
  imodintro
  isplitl [HH]; · iexact HH
  isplitr; · rw [emp_all]; iempintro
  unfold P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

end Obligations

end Cert.Proof

end
-- ==== Proof.Main.lean ====
/-
  @main on the TensorCore: the planes are laid out, the kernel is called, and the host finishes the last eight rows and
  puts the two parts together. From any memory whose labels are in range the program ends with its arguments untouched,
  every counter at zero and its result at `outVal` (`run_main`), for any float values.
-/
module

public import proofs.«01_k».proof.Proof.Launch
public import Idealize.ShloMosaic.Lib.Pipeline.Frame

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The host's operations -/

/-- Before the call: the planes of the masks. -/
abbrev layOps : List (HloOp τ sig (Elt F)) :=
  [ StableHlo.unary main_arg0 main_v0 ((transpose S28x28x81x5000 [2, 3, 1, 0] · transposes_S5000x81x28x28_S28x28x81x5000_2_3_1_0) : (⟨S5000x81x28x28, .f32⟩ : BufTy).Contents (Elt F) → (⟨S28x28x81x5000, .f32⟩ : BufTy).Contents (Elt F)),
    StableHlo.reshape main_v0 main_v1 (rfl : (.f32 : EltTy) = .f32) shapeCasts_S28x28x81x5000_S784x81x5000 ]

/-- After it: the kernel's result back as rows, and the last eight rows and their labels. -/
abbrev rowOps : List (HloOp τ sig (Elt F)) :=
  [ StableHlo.reshape main_v2 main_v3 (rfl : (.f32 : EltTy) = .f32) shapeCasts_S784x4992_S28x28x4992,
    StableHlo.unary main_v3 main_v4 ((transpose S4992x28x28 [2, 0, 1] · transposes_S28x28x4992_S4992x28x28_2_0_1) : (⟨S28x28x4992, .f32⟩ : BufTy).Contents (Elt F) → (⟨S4992x28x28, .f32⟩ : BufTy).Contents (Elt F)),
    StableHlo.unary main_arg0 main_v5 ((extractStridedSlice S8x81x28x28 ![4992, 0, 0, 0] · slices_S5000x81x28x28_S8x81x28x28_4992_0_0_0) : (⟨S5000x81x28x28, .f32⟩ : BufTy).Contents (Elt F) → (⟨S8x81x28x28, .f32⟩ : BufTy).Contents (Elt F)),
    StableHlo.unary main_arg1 main_v6 ((extractStridedSlice S8 ![4992] · slices_S5000_S8_4992) : (⟨S5000, .i32⟩ : BufTy).Contents (Elt F) → (⟨S8, .i32⟩ : BufTy).Contents (Elt F)),
    StableHlo.unary main_v6 main_v7 (broadcastInDim S8x1x1x1 ![0] bcast_S8_S8x1x1x1_0 : (⟨S8, .i32⟩ : BufTy).Contents (Elt F) → (⟨S8x1x1x1, .i32⟩ : BufTy).Contents (Elt F)) ]

/-- The last eight rows at their labels. -/
abbrev pickOps : List (HloOp τ sig (Elt F)) :=
  [ StableHlo.nullary main_call0_c (constantI S_ 32 0#32),
    StableHlo.unary main_call0_c main_call0_v0 (broadcastInDim S8x1x1x1 ![] bcast_S_S8x1x1x1 : (⟨S_, .i32⟩ : BufTy).Contents (Elt F) → (⟨S8x1x1x1, .i32⟩ : BufTy).Contents (Elt F)),
    StableHlo.binary main_v7 main_call0_v0 main_call0_v1 (cmpi .slt : (⟨S8x1x1x1, .i32⟩ : BufTy).Contents (Elt F) → (⟨S8x1x1x1, .i32⟩ : BufTy).Contents (Elt F) → (⟨S8x1x1x1, .i1⟩ : BufTy).Contents (Elt F)),
    StableHlo.nullary main_call0_c_0 (constantI S_ 32 81#32),
    StableHlo.unary main_call0_c_0 main_call0_v2 (broadcastInDim S8x1x1x1 ![] bcast_S_S8x1x1x1 : (⟨S_, .i32⟩ : BufTy).Contents (Elt F) → (⟨S8x1x1x1, .i32⟩ : BufTy).Contents (Elt F)),
    StableHlo.binary main_v7 main_call0_v2 main_call0_v3 (addi : (⟨S8x1x1x1, .i32⟩ : BufTy).Contents (Elt F) → (⟨S8x1x1x1, .i32⟩ : BufTy).Contents (Elt F) → (⟨S8x1x1x1, .i32⟩ : BufTy).Contents (Elt F)),
    StableHlo.ternary main_call0_v1 main_call0_v3 main_v7 main_call0_v4 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    StableHlo.reshape main_call0_v4 main_call0_v5 (rfl : (.i32 : EltTy) = .i32) shapeCasts_S8x1x1x1_S8x1x1,
    StableHlo.nullary main_call0_c_1 (constantI S1 32 80#32),
    StableHlo.nullary main_call0_c_2 (constantI S_ 32 0#32),
    StableHlo.unary main_call0_c_2 main_call0_v6 (broadcastInDim S8x1x1 ![] bcast_S_S8x1x1 : (⟨S_, .i32⟩ : BufTy).Contents (Elt F) → (⟨S8x1x1, .i32⟩ : BufTy).Contents (Elt F)),
    StableHlo.binary main_call0_v5 main_call0_v6 main_call0_v7 (cmpi .sge : (⟨S8x1x1, .i32⟩ : BufTy).Contents (Elt F) → (⟨S8x1x1, .i32⟩ : BufTy).Contents (Elt F) → (⟨S8x1x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S8x1x1 ![0, 1, 2] bcast_S1x1x1_S8x1x1_0_1_2 : (⟨S1x1x1, .i32⟩ : BufTy).Contents (Elt F) → (⟨S8x1x1, .i32⟩ : BufTy).Contents (Elt F)),
    StableHlo.binary main_call0_v5 main_call0_v9 main_call0_v10 (cmpi .sle : (⟨S8x1x1, .i32⟩ : BufTy).Contents (Elt F) → (⟨S8x1x1, .i32⟩ : BufTy).Contents (Elt F) → (⟨S8x1x1, .i1⟩ : BufTy).Contents (Elt F)),
    StableHlo.binary main_call0_v7 main_call0_v10 main_call0_v11 (andi : (⟨S8x1x1, .i1⟩ : BufTy).Contents (Elt F) → (⟨S8x1x1, .i1⟩ : BufTy).Contents (Elt F) → (⟨S8x1x1, .i1⟩ : BufTy).Contents (Elt F)),
    StableHlo.nullary main_call0_c_3 (constantI S_ 1 1#1),
    StableHlo.binary main_call0_v11 main_call0_c_3 main_call0_v12 ((fun x v => Host.reduce IntOp.andi x v reducesTo_S8x1x1_S8x1_d2 h_S_) : (⟨S8x1x1, .i1⟩ : BufTy).Contents (Elt F) → (⟨S_, .i1⟩ : BufTy).Contents (Elt F) → (⟨S8x1, .i1⟩ : BufTy).Contents (Elt F)),
    StableHlo.binary main_v5 main_call0_v5 main_call0_v13 ((fun x i => Host.gather gather_S8x81x28x28_S8x1x1_S8x1x28x28_23_1_0_0_1_2_112828 x i) : (⟨S8x81x28x28, .f32⟩ : BufTy).Contents (Elt F) → (⟨S8x1x1, .i32⟩ : BufTy).Contents (Elt F) → (⟨S8x1x28x28, .f32⟩ : BufTy).Contents (Elt F)),
    StableHlo.unary main_call0_v12 main_call0_v14 (broadcastInDim S8x1x28x28 ![0, 1] bcast_S8x1_S8x1x28x28_0_1 : (⟨S8x1, .i1⟩ : BufTy).Contents (Elt F) → (⟨S8x1x28x28, .i1⟩ : BufTy).Contents (Elt F)),
    StableHlo.nullary main_call0_cst (constant S_ .f32 0x7FC00000#32),
    StableHlo.unary main_call0_cst main_call0_v15 (broadcastInDim S8x1x28x28 ![] bcast_S_S8x1x28x28 : (⟨S_, .f32⟩ : BufTy).Contents (Elt F) → (⟨S8x1x28x28, .f32⟩ : BufTy).Contents (Elt F)),
    StableHlo.ternary main_call0_v14 main_call0_v13 main_call0_v15 main_v8 (select : (⟨S8x1x28x28, .i1⟩ : BufTy).Contents (Elt F) → (⟨S8x1x28x28, .f32⟩ : BufTy).Contents (Elt F) → (⟨S8x1x28x28, .f32⟩ : BufTy).Contents (Elt F) → (⟨S8x1x28x28, .f32⟩ : BufTy).Contents (Elt F)) ]

/-- Their sigmoid, and the whole result. -/
abbrev endOps : List (HloOp τ sig (Elt F)) :=
  [ StableHlo.reshape main_v8 main_v9 (rfl : (.f32 : EltTy) = .f32) shapeCasts_S8x1x28x28_S8x28x28,
    StableHlo.unary main_v9 main_v10 (Host.negf : (⟨S8x28x28, .f32⟩ : BufTy).Contents (Elt F) → (⟨S8x28x28, .f32⟩ : BufTy).Contents (Elt F)),
    StableHlo.unary main_v10 main_v11 (Host.exp : (⟨S8x28x28, .f32⟩ : BufTy).Contents (Elt F) → (⟨S8x28x28, .f32⟩ : BufTy).Contents (Elt F)),
    StableHlo.nullary main_cst (constant S_ .f32 0x3F800000#32),
    StableHlo.unary main_cst main_v12 (broadcastInDim S8x28x28 ![] bcast_S_S8x28x28 : (⟨S_, .f32⟩ : BufTy).Contents (Elt F) → (⟨S8x28x28, .f32⟩ : BufTy).Contents (Elt F)),
    StableHlo.binary main_v12 main_v11 main_v13 (addf : (⟨S8x28x28, .f32⟩ : BufTy).Contents (Elt F) → (⟨S8x28x28, .f32⟩ : BufTy).Contents (Elt F) → (⟨S8x28x28, .f32⟩ : BufTy).Contents (Elt F)),
    StableHlo.nullary main_cst_0 (constant S_ .f32 0x3F800000#32),
    StableHlo.unary main_cst_0 main_v14 (broadcastInDim S8x28x28 ![] bcast_S_S8x28x28 : (⟨S_, .f32⟩ : BufTy).Contents (Elt F) → (⟨S8x28x28, .f32⟩ : BufTy).Contents (Elt F)),
    StableHlo.binary main_v14 main_v13 main_v15 (Host.divf : (⟨S8x28x28, .f32⟩ : BufTy).Contents (Elt F) → (⟨S8x28x28, .f32⟩ : BufTy).Contents (Elt F) → (⟨S8x28x28, .f32⟩ : BufTy).Contents (Elt F)),
    StableHlo.binary main_v4 main_v15 main_v16 ((fun a b => concatenate S5000x28x28 0 [⟨S4992x28x28, a⟩, ⟨S8x28x28, b⟩] concatenates_S4992x28x28_S8x28x28_S5000x28x28_d0) : (⟨S4992x28x28, .f32⟩ : BufTy).Contents (Elt F) → (⟨S8x28x28, .f32⟩ : BufTy).Contents (Elt F) → (⟨S5000x28x28, .f32⟩ : BufTy).Contents (Elt F)),
    StableHlo.unary main_v16 main_v17 (broadcastInDim S5000x1x28x28 ![0, 2, 3] bcast_S5000x28x28_S5000x1x28x28_0_2_3 : (⟨S5000x28x28, .f32⟩ : BufTy).Contents (Elt F) → (⟨S5000x1x28x28, .f32⟩ : BufTy).Contents (Elt F)) ]

/-- All that follows the call. -/
abbrev tailOps : List (HloOp τ sig (Elt F)) := rowOps ++ (pickOps ++ endOps)

theorem main_eq (d : Dev nD) : main (F := F) d = seq layOps >>= fun _ => sc.run d 0 >>= fun _ => seq tailOps := rfl

/-! ## The buffers' contents along @main -/

variable (m : (ℓ : Loc nD τ sig) → Buf (Elt F) ℓ) (ρ : Dev nD → PrngReg)

abbrev b' (r : Ref sig .tc) : DevRef τ sig := Proc.devRef .tc r

/-- At the launch, at the call, when the call is back, at the end. -/
def V0 (d : Dev nD) : Valuation τ sig (Elt F) := fun b => m (d, b)
def V1 (d : Dev nD) : Valuation τ sig (Elt F) := after layOps (V0 m d)
def XD (d : Dev nD) : Vec F S784x81x5000 .f32 := V1 m d (b' main_v1)
def LD (d : Dev nD) : Vec F S5000 .i32 := m ((SparseCore.T d).loc main_arg1)
def oD (d : Dev nD) : Vec F S784x4992 .f32 := m ((SparseCore.T d).loc main_v2)
def V2 (d : Dev nD) : Valuation τ sig (Elt F) := Function.update (V1 m d) (b' main_v2) (GD (XD m) (LD m) d)
def V3 (d : Dev nD) : Valuation τ sig (Elt F) := after tailOps (V2 m d)

theorem V1_l (d : Dev nD) : V1 m d (b' main_arg1) = LD m d := by unfold V1; after_results <;> rfl
theorem V1_o (d : Dev nD) : V1 m d (b' main_v2) = oD m d := by unfold V1; after_results <;> rfl
theorem V1_x (d : Dev nD) : V1 m d (b' main_arg0) = m ((SparseCore.T d).loc main_arg0) := by unfold V1; after_results <;> rfl
theorem V2_v (d : Dev nD) : V2 m d (b' main_v1) = XD m d := Function.update_of_ne (by decide) _ _
theorem V2_l (d : Dev nD) : V2 m d (b' main_arg1) = LD m d := (Function.update_of_ne (by decide) _ _).trans (V1_l m d)
theorem V2_x (d : Dev nD) : V2 m d (b' main_arg0) = m ((SparseCore.T d).loc main_arg0) := (Function.update_of_ne (by decide) _ _).trans (V1_x m d)
theorem V2_o (d : Dev nD) : V2 m d (b' main_v2) = GD (XD m) (LD m) d := Function.update_self _ _ _

/-- What @main returns. -/
def outVal (d : Dev nD) : Vec F S5000x1x28x28 .f32 := V3 m d (b' main_v17)

theorem V3_x (d : Dev nD) : V3 m d (b' main_arg0) = m ((SparseCore.T d).loc main_arg0) := by
  refine Eq.trans ?_ (V2_x m d); unfold V3
  simp only [tailOps, rowOps, pickOps, endOps, List.cons_append, List.nil_append]
  after_results <;> rfl
theorem V3_l (d : Dev nD) : V3 m d (b' main_arg1) = m ((SparseCore.T d).loc main_arg1) := by
  refine Eq.trans ?_ (V2_l m d); unfold V3
  simp only [tailOps, rowOps, pickOps, endOps, List.cons_append, List.nil_append]
  after_results <;> rfl

/-! ## @main's proof -/

abbrev uc : Finset (DevRef τ sig) := Pipeline.ucRefs τ sig
/-- The call's three arrays; the two arguments and the result. -/
abbrev callSet : Finset (DevRef τ sig) := {b' main_v1, b' main_arg1, b' main_v2}
abbrev endSet : Finset (DevRef τ sig) := {b' main_arg0, b' main_arg1, b' main_v17}

theorem callSet_sub : callSet ⊆ uc := by decide
theorem endSet_sub : endSet ⊆ uc := by decide

theorem within_uc {ops : List (HloOp τ sig (Elt F))} (h : ops.Forall fun op => op.bufs ⊆ tcRefs τ sig) : ∀ op ∈ ops, op.bufs ⊆ uc :=
  fun op ho => Pipeline.sub_ucRefs op (List.forall_iff_forall_mem.mp h op ho)

theorem lay_sub : (layOps (F := F)).Forall fun op => op.bufs ⊆ tcRefs τ sig := by simp [layOps]
theorem tail_sub : (tailOps (F := F)).Forall fun op => op.bufs ⊆ tcRefs τ sig := by simp [tailOps, rowOps, pickOps, endOps]
theorem lay_fresh : ∀ op ∈ layOps (F := F), op.fresh = ∅ := List.forall_iff_forall_mem.mp (forall_fresh_of_map rfl)
theorem tail_fresh : ∀ op ∈ tailOps (F := F), op.fresh = ∅ := List.forall_iff_forall_mem.mp (forall_fresh_of_map rfl)

theorem held_callSet (d : Dev nD) (W : Valuation τ sig (Elt F)) :
    (held (SparseCore.T d) callSet W : sProp 𝕄)
      = iprop((vLoc d ↦{fullShare} W (b' main_v1)) ∗ (lLoc d ↦{fullShare} W (b' main_arg1)) ∗ oLoc d ↦{fullShare} W (b' main_v2)) := by
  unfold held callSet
  rw [SparseCore.bigSep_insert' (by decide), SparseCore.bigSep_insert' (by decide), bigSep_singleton]

theorem held_endSet (d : Dev nD) (W : Valuation τ sig (Elt F)) :
    (held (SparseCore.T d) endSet W : sProp 𝕄)
      = iprop(((SparseCore.T d).loc main_arg0 ↦{fullShare} W (b' main_arg0)) ∗ (lLoc d ↦{fullShare} W (b' main_arg1))
          ∗ (SparseCore.T d).loc main_v17 ↦{fullShare} W (b' main_v17)) := by
  unfold held endSet
  rw [SparseCore.bigSep_insert' (by decide), SparseCore.bigSep_insert' (by decide), bigSep_singleton]

/-- At the call the three arrays are the call's, the rest stay; when it is back they rejoin. -/
theorem held_V1 (d : Dev nD) :
    (held (SparseCore.T d) uc (V1 m d) : sProp 𝕄) = iprop(callHas (XD m) (LD m) (oD m) d ∗ held (SparseCore.T d) (uc \ callSet) (V1 m d)) := by
  rw [held_sub_split (SparseCore.T d) callSet_sub, held_callSet, V1_l, V1_o]; rfl

theorem held_V2 (d : Dev nD) :
    (held (SparseCore.T d) uc (V2 m d) : sProp 𝕄) = iprop(callHas (XD m) (LD m) (GD (XD m) (LD m)) d ∗ held (SparseCore.T d) (uc \ callSet) (V1 m d)) := by
  rw [held_sub_split (SparseCore.T d) callSet_sub, held_callSet, V2_v, V2_l, V2_o,
    held_congr (SparseCore.T d) (V := V2 m d) (V' := V1 m d) fun b hb => Function.update_of_ne (fun e => (Finset.mem_sdiff.mp hb).2 (by rw [e]; decide)) _ _]
  rfl

/-- What @main leaves: its arguments as they were, its result. -/
def FIN (d : Dev nD) : sProp 𝕄 :=
  iprop(((SparseCore.T d).loc main_arg0 ↦{fullShare} m ((SparseCore.T d).loc main_arg0)) ∗ (lLoc d ↦{fullShare} m (lLoc d))
    ∗ (SparseCore.T d).loc main_v17 ↦{fullShare} outVal m d)

theorem held_V3 (d : Dev nD) : (held (SparseCore.T d) uc (V3 m d) : sProp 𝕄) = iprop(FIN m d ∗ held (SparseCore.T d) (uc \ endSet) (V3 m d)) := by
  rw [held_sub_split (SparseCore.T d) endSet_sub, held_endSet, V3_x, V3_l]; rfl

theorem hmain (κ : GSem nD τ sig → ℕ) (d : Dev nD) :
    iprop((K (F := F)).ctx EH (P (XD m) (LD m) (oD m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) uc (V0 m d) from
    Pipeline.unscopedBufs_held d (V0 m d), main_eq]
  iintro ⟨#Hctx, Hst, ⟨Hb, Hheld, Hts, -⟩, -⟩
  iapply (wp_seq 𝒱 none Set.univ d uc (fun _ => sc.run d 0 >>= fun _ => seq tailOps) layOps (within_uc lay_sub) lay_fresh (V0 m d)) $$ [Hb Hheld]
  · isplitl [Hb]; · iexact Hb
    iexact Hheld
  iintro ⟨Hb, Hheld⟩
  ihave Hh := (show held (d.tc : Thread nD τ) uc (after layOps (V0 m d)) ⊢ _ from Entails.of_eq (held_V1 m d)) $$ Hheld
  icases Hh with ⟨Hcall, Hrest⟩
  rw [wp_bind]
  iapply ((K (F := F)).wp_run (D (F := F)) 𝒱 (EH := EH) (P := P (XD m) (LD m) (oD m)) κ d 0) $$ [Hst Hcall Hb Hrest Hts]
  isplitr; · iexact Hctx
  isplitl [Hst]; · iexact Hst
  isplitl [Hcall]
  · rw [call_in]; iexact Hcall
  iintro ⟨Hst, Hdn⟩
  ihave Hdn' := (Entails.of_eq (call_out (XD m) (LD m) (oD m) d)) $$ Hdn
  ihave Hheld := (Entails.of_eq (held_V2 m d).symm) $$ [Hdn' Hrest]
  · isplitl [Hdn']; · iexact Hdn'
    iexact Hrest
  rw [show seq (Λ := SparseCore.Sig (Pipeline.Sig Λ₀ (Fin 0) fun p => (pcfgs (F := F) p).Adm) 1) (nD := nD) (tailOps (F := F))
    = (seq tailOps >>= fun u => Pure.pure u) from (bind_pure _).symm]
  iapply (wp_seq 𝒱 none Set.univ d uc (fun u => Pure.pure u) tailOps (within_uc tail_sub) tail_fresh (V2 m d)) $$ [Hb Hheld]
  · isplitl [Hb]; · iexact Hb
    iexact Hheld
  iintro ⟨Hb, Hheld⟩
  ihave Hh := (show held (d.tc : Thread nD τ) uc (after tailOps (V2 m d)) ⊢ _ from Entails.of_eq (held_V3 m d)) $$ Hheld
  icases Hh with ⟨Hfin, -⟩
  rw [wp_pure]; imodintro
  isplitl [Hst]; · iexact Hst
  isplitl [Hfin]; · iexact Hfin
  isplitl [Hb] <;> iassumption

/-! ## The program's run -/

/-- The arguments as they were and the result, in a final memory. -/
def fq (d : Dev nD) (s' : Phys nD τ sig (Elt F)) : Prop :=
  s'.mem.mem ((SparseCore.T d).loc main_arg0) = m ((SparseCore.T d).loc main_arg0) ∧ s'.mem.mem (lLoc d) = m (lLoc d)
    ∧ s'.mem.mem ((SparseCore.T d).loc main_v17) = outVal m d

theorem reads (ℓ : Loc nD τ sig) (f : Buf (Elt F) ℓ) (s' : Phys nD τ sig (Elt F)) :
    iprop(SI s' ∗ ℓ ↦{fullShare} f) ⊢ (⌜s'.mem.mem ℓ = f⌝ ∗ SI s' : sProp 𝕄) := by
  refine (persistent_entails_right (SI_pointsTo_agree (st := s') (ℓ := ℓ) (I := Finset.univ) (q := fullShare) (f := f))).trans ?_
  iintro ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨Hx, Hl, Ho⟩, HSI⟩
  ihave H := (reads _ _ s') $$ [HSI Hx]
  · isplitl [HSI] <;> iassumption
  icases H with ⟨%hx, HSI⟩
  ihave H := (reads _ _ s') $$ [HSI Hl]
  · isplitl [HSI] <;> iassumption
  icases H with ⟨%hl, HSI⟩
  ihave H := (reads _ _ s') $$ [HSI Ho]
  · isplitl [HSI] <;> iassumption
  icases H with ⟨%ho, -⟩
  ipureintro; exact ⟨hx, hl, ho⟩

/-- The labels name masks, on every device. -/
def LabelsOK : Prop := ∀ d n, (LD m d n).toNat < 81

theorem run_main [∀ e, Nonempty (Elt F e)] (hL : LabelsOK m) :
    θ_run (Cert.KernelIdeal.defs (F := F)) (Cert.KernelIdeal.threads (F := F)) ⟨m, fun _ => 0, ρ⟩
      (fun r => (∀ c : Dev nD, r.2.mem ((SparseCore.T c).loc main_arg0) = m ((SparseCore.T c).loc main_arg0) ∧ r.2.mem (lLoc c) = m (lLoc c)
        ∧ r.2.mem ((SparseCore.T c).loc main_v17) = outVal m c) ∧ r.2.sem = fun _ => 0) :=
  SparseCore.Cfg.θ_run_sc_quiescent (K := K (F := F)) (D := D (F := F)) (𝒱 := 𝒱) (EH := EH) (P := P (XD m) (LD m) (oD m)) (A := ∅) facts v₀
    (fun q hq => match q with | 0 => nomatch hq)
    (fun q _ => match q with | 0 => tileObl (XD m) (LD m) (oD m) hL)
    (fun q _ => match q with | 0 => SparseCore.Cfg.VecSplit.of_plain (vecSplit (XD m) (LD m) (oD m)))
    m ρ main (fun _ => iprop(emp)) (FIN m) (u₀ (F := F)) (sep_elim_left.trans (hu₀ (XD m) (LD m) (oD m))) (hmain m ρ) (fq m) (hfin m) _ (fun _ h hz => ⟨h, hz⟩)

end Cert.Proof

end
-- ==== Proof.Frames.lean ====
/-
  The claims about how the programs run: the kernel at either reading of floats and the reference end with their
  arguments untouched and every counter at zero. The kernel's two texts are one, so its run is `run_main` at both.
-/
module

public import proofs.«01_k».proof.Proof.Main
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll
public import Idealize.ShloMosaic.Adequacy
public import Idealize.ShloMosaic.Init

@[expose] public section

noncomputable section

namespace Cert.Proof

open Idealize.ShloMosaic Idealize.ShloMosaic.TcCoe Idealize.SL.Sem

variable {F : FTy → Type} [FloatOps F]

/-- A word that is at least 0 and less than 81 as a signed word is its own value, less than 81. -/
theorem word_lt (v : BitVec 32) (h : IntOp.andi (IntOp.cmpi .sge v 0#32) (IntOp.cmpi .slt v 81#32) = 1#1) : v.toNat < 81 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at h
  omega

instance : Subsingleton Cert.Pre_in_range.S_.Idx := ⟨fun a b => funext fun i => i.elim0⟩

/-- The range precondition, read at one label. -/
theorem label_of_pre (x : FVec F Cert.Pre_in_range.S5000x81x28x28 .f32) (l : IVec Cert.Pre_in_range.S5000 32)
    (h : Cert.Pre_in_range.fn (F := F) x l = fun _ => 1#1) (n : Cert.Pre_in_range.S5000.Idx) : (l n).toNat < 81 := by
  have e := congrFun h (fun i => i.elim0)
  simp only [Cert.Pre_in_range.fn] at e
  exact word_lt _ (Host.reduce_andi_all _ _ _ _ _ e n)

/-! ## The kernel -/

theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d n => label_of_pre _ _ (hpre d) n)

theorem labelsOK (m : (ℓ : Loc Cert.KernelIdeal.nD Cert.KernelIdeal.τ Cert.KernelIdeal.sig) → Buf (Elt Ideal) ℓ)
    (hpre : Cert.Pre_KernelIdeal m) : LabelsOK (F := Ideal) m := fun d n => label_of_pre _ _ (hpre d) n

theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (labelsOK m hpre))

/-! ## The reference: it has no semaphore -/

theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

theorem frame_reference_pre : Cert.quiescent_ReferenceIdeal_pre_in_range := fun m ρ _ => frame_reference m ρ trivial

end Cert.Proof

end
-- ==== Proof.RefValue.lean ====
/-
  The value of one result element: the sigmoid of the mask element the row's label names (`picked`), and the reference's
  result read at an index, which is that value. Labels in range make every clamp and wrap of an index the identity.
-/
module

public import proofs.«01_k».proof.Proof.Frames
public import Idealize.ShloMosaic.Lib.Pointwise
public import Idealize.ShloMosaic.Lib.StableHlo.Predicate

@[expose] public section

noncomputable section

namespace Cert.Proof

open Idealize.ShloMosaic Idealize.ShloMosaic.StableHlo

/-! ## Words that are small naturals -/

/-- A word that is not negative is not wrapped round the axis. -/
theorem wrap_small (w k : BitVec 32) (h : w.toNat < 2 ^ 31) :
    Scalar.select (IntOp.cmpi .slt w 0#32) (IntOp.addi w k) w = w := by
  have hn : ¬ IntOp.cmpi .slt w 0#32 = 1#1 := by
    rw [Predicate.slt_iff_toNat h (by decide)]
    exact Nat.not_lt_zero _
  unfold Scalar.select
  exact if_neg hn

/-- A word inside the axis is not clamped. -/
theorem clamp_small (w : BitVec 32) (k : ℕ) (hk : k < 2 ^ 31) (h : w.toNat ≤ k) : min w.toInt.toNat k = w.toNat := by
  rw [Predicate.toInt_eq_toNat_of_lt (by omega), Int.toNat_natCast]
  omega

section
open Cert.ReferenceIdeal Cert.ReferenceIdeal.Gen

/-- The sigmoid of row `n`'s mask at its label, at pixel `(a, b)`. -/
def picked (x : FVec Ideal S5000x81x28x28 .f32) (l : IVec S5000 32) (n : Fin 5000) (a b : Fin 28) : Ideal .f32 :=
  Ideal.div 1 (1 + Ideal.exp (-x (ix4 n ⟨(l (ix1 n)).toNat % 81, Nat.mod_lt _ (by decide)⟩ a b)))

theorem picked_eq (x : FVec Ideal S5000x81x28x28 .f32) (l : IVec S5000 32) (n : Fin 5000) (a b : Fin 28) (k : Fin 5000) (c : Fin 81)
    (hk : k.val = n.val) (hc : c.val = (l (ix1 n)).toNat) :
    Ideal.div 1 (1 + Ideal.exp (-x (ix4 k c a b))) = picked x l n a b := by
  have ek : k = n := Fin.ext hk
  have ec : c = ⟨(l (ix1 n)).toNat % 81, Nat.mod_lt _ (by decide)⟩ :=
    Fin.ext (by show c.val = (l (ix1 n)).toNat % 81; have := c.isLt; omega)
  rw [ek, ec]; rfl

/-! ## The reference's gather -/

abbrev dR := gather_S5000x81x28x28_S5000x2_S5000x28x28_12_01_n_n_01_1_112828

theorem dR_si (n : Fin 5000) (a b : Fin 28) (c : Fin 2) : dR.siIdx (ix3 n a b) c = ix2 n c := by
  funext k
  apply Fin.ext
  match k with
  | ⟨0, _⟩ => rfl
  | ⟨1, _⟩ => rfl

/-- The gather takes row and mask from the index pair, the pixel from the result's index. -/
theorem ref_gather {α : Type} (y : S5000x81x28x28.Idx → α) (idx : IVec S5000x2 32) (n : Fin 5000) (a b : Fin 28) :
    Host.gather dR y idx (ix3 n a b)
      = y (ix4 ⟨min (idx (ix2 n 0)).toInt.toNat 4999, by omega⟩ ⟨min (idx (ix2 n 1)).toInt.toNat 80, by omega⟩ a b) := by
  unfold Host.gather
  congr 1
  funext k
  apply Fin.ext
  show dR.start _ _ _ + dR.batchCoord _ _ + dR.offCoord _ _ = _
  rw [dR.batchCoord_eq_zero _ _ (List.not_mem_nil)]
  match k with
  | ⟨0, _⟩ =>
    rw [dR.offCoord_eq_zero _ _ (by decide +revert)]
    unfold GatherDims.start
    rw [dif_pos (by decide +revert)]
    exact congrArg (fun i => min (idx i).toInt.toNat 4999) (dR_si n a b 0)
  | ⟨1, _⟩ =>
    rw [dR.offCoord_eq_zero _ _ (by decide +revert)]
    unfold GatherDims.start
    rw [dif_pos (by decide +revert)]
    exact congrArg (fun i => min (idx i).toInt.toNat 80) (dR_si n a b 1)
  | ⟨2, _⟩ =>
    unfold GatherDims.start GatherDims.offCoord
    rw [dif_neg (by decide +revert), dif_pos (by decide +revert), Nat.zero_add]
    rfl
  | ⟨3, _⟩ =>
    unfold GatherDims.start GatherDims.offCoord
    rw [dif_neg (by decide +revert), dif_pos (by decide +revert), Nat.zero_add]
    rfl

/-! ## The reference's result -/

/-- The reference's result as a term over its two arguments. -/
def refVal (x : FVec Ideal S5000x81x28x28 .f32) (l : IVec S5000 32) : FVec Ideal S5000x1x28x28 .f32 :=
  broadcastInDim S5000x1x28x28 ![0, 2, 3] bcast_S5000x28x28_S5000x1x28x28_0_2_3 (Host.gather gather_S5000x81x28x28_S5000x2_S5000x28x28_12_01_n_n_01_1_112828
    (Host.divf (broadcastInDim S5000x81x28x28 ![] bcast_S_S5000x81x28x28 (constant S_ .f32 0x3F800000#32)) (addf (broadcastInDim S5000x81x28x28 ![] bcast_S_S5000x81x28x28 (constant S_ .f32 0x3F800000#32)) (Host.exp (Host.negf x))))
    (concatenate S5000x2 1 [⟨S5000x1, (broadcastInDim S5000x1 ![0] bcast_S5000_S5000x1_0 (select (cmpi .slt (iotaInDim S5000 32 0) (broadcastInDim S5000 ![] bcast_S_S5000 (constantI S_ 32 0#32))) (addi (iotaInDim S5000 32 0) (broadcastInDim S5000 ![] bcast_S_S5000 (constantI S_ 32 5000#32))) (iotaInDim S5000 32 0)))⟩,
      ⟨S5000x1, (broadcastInDim S5000x1 ![0] bcast_S5000_S5000x1_0 (select (cmpi .slt l (broadcastInDim S5000 ![] bcast_S_S5000 (constantI S_ 32 0#32))) (addi l (broadcastInDim S5000 ![] bcast_S_S5000 (constantI S_ 32 81#32))) l))⟩] concatenates_S5000x1_S5000x1_S5000x2_d1))

theorem refVal_at (x : FVec Ideal S5000x81x28x28 .f32) (l : IVec S5000 32) (hl : ∀ i, (l i).toNat < 81)
    (n : Fin 5000) (z : Fin 1) (a b : Fin 28) : refVal x l (ix4 n z a b) = picked x l n a b := by
  have hn : (BitVec.ofNat 32 n.val).toNat = n.val := by
    rw [BitVec.toNat_ofNat]; have := n.isLt; omega
  pointwise [refVal, ref_gather]
  refine picked_eq x l n a b _ _ ?_ ?_
  · show min (Scalar.select _ _ _ : BitVec 32).toInt.toNat 4999 = _
    rw [wrap_small _ _ (by have := n.isLt; omega), clamp_small _ _ (by decide) (by have := n.isLt; omega), hn]
  · show min (Scalar.select _ _ _ : BitVec 32).toInt.toNat 80 = _
    rw [wrap_small _ _ (by have := hl (ix1 n); omega), clamp_small _ _ (by decide) (by have := hl (ix1 n); omega)]

end

end Cert.Proof

end
-- ==== Proof.Result.lean ====
/-
  The kernel program's result read at an index, and the equation of the two programs: over the extended reals both leave
  the sigmoid of the mask element the row's label names.
-/
module

public import proofs.«01_k».proof.Proof.RefValue
public import Idealize.ShloMosaic.Lib.StableHlo.ReadAt

@[expose] public section

noncomputable section

namespace Cert.Proof

open Idealize.ShloMosaic Idealize.ShloMosaic.StableHlo

section
open Cert.KernelIdeal Cert.KernelIdeal.Gen

/-! ## The gather of the last eight rows -/

abbrev dK := gather_S8x81x28x28_S8x1x1_S8x1x28x28_23_1_0_0_1_2_112828

/-- It keeps the row, takes the mask from the index, and keeps the pixel. -/
theorem tail_gather {α : Type} (y : S8x81x28x28.Idx → α) (idx : IVec S8x1x1 32) (r : Fin 8) (z : Fin 1) (a b : Fin 28) :
    Host.gather dK y idx (ix4 r z a b) = y (ix4 r ⟨min (idx (ix3 r 0 0)).toInt.toNat 80, by omega⟩ a b) := by
  unfold Host.gather
  congr 1
  funext k
  apply Fin.ext
  show dK.start _ _ _ + dK.batchCoord _ _ + dK.offCoord _ _ = _
  match k with
  | ⟨0, _⟩ =>
    rw [dK.offCoord_eq_zero _ _ (by decide +revert)]
    unfold GatherDims.start GatherDims.batchCoord
    rw [dif_neg (by decide +revert), dif_pos (by decide +revert), Nat.zero_add]
    rfl
  | ⟨1, _⟩ =>
    rw [dK.offCoord_eq_zero _ _ (by decide +revert), dK.batchCoord_eq_zero _ _ (by decide +revert)]
    unfold GatherDims.start
    rw [dif_pos (by decide +revert)]
    refine congrArg (fun i => min (idx i).toInt.toNat 80) ?_
    funext j
    apply Fin.ext
    match j with
    | ⟨0, _⟩ => rfl
    | ⟨1, _⟩ => have := z.isLt; show z.val = 0; omega
    | ⟨2, _⟩ => rfl
  | ⟨2, _⟩ =>
    rw [dK.batchCoord_eq_zero _ _ (by decide +revert)]
    unfold GatherDims.start GatherDims.offCoord
    rw [dif_neg (by decide +revert), dif_pos (by decide +revert), Nat.zero_add]
    rfl
  | ⟨3, _⟩ =>
    rw [dK.batchCoord_eq_zero _ _ (by decide +revert)]
    unfold GatherDims.start GatherDims.offCoord
    rw [dif_neg (by decide +revert), dif_pos (by decide +revert), Nat.zero_add]
    rfl

/-! ## The host's parts -/

/-- The planes hold the masks, a pixel to a plane. -/
theorem lay_at (V : Valuation τ sig (Elt Ideal)) (p : Fin 784) (c : Fin 81) (n : Fin 5000) :
    (after layOps V (Proc.devRef .tc main_v1) : FVec Ideal S784x81x5000 .f32) (ix3 p c n)
      = (V (Proc.devRef .tc main_arg0) : FVec Ideal S5000x81x28x28 .f32)
          (ix4 n c ⟨p.val / 28, by have := p.isLt; omega⟩ ⟨p.val % 28, Nat.mod_lt _ (by decide)⟩) := by
  unfold layOps
  after_reads_at

/-- With the label in range the bit that lets the gathered element through is set. -/
theorem bit_one {ι : Type} (S : Finset ι) (w : BitVec 32) (h : w.toNat < 81) :
    S.fold IntOp.andi (1#1) (fun _ => IntOp.andi (IntOp.cmpi .sge w 0#32) (IntOp.cmpi .sle w 80#32)) = 1#1 := by
  have h1 : IntOp.cmpi .sge w 0#32 = 1#1 := (Predicate.sge_iff_toNat (by omega) (by decide)).mpr (Nat.zero_le _)
  have h2 : IntOp.cmpi .sle w 80#32 = 1#1 :=
    (Predicate.sle_iff_toNat (by omega) (by decide)).mpr (by show w.toNat ≤ 80; omega)
  rw [h1, h2]
  induction S using Finset.cons_induction with
  | empty => rfl
  | cons a S ha ih => rw [Finset.fold_cons, ih]; decide

/-- One of the last eight rows, as the host finishes it. -/
theorem last_row (x : FVec Ideal S5000x81x28x28 .f32) (l : IVec S5000 32) (hl : ∀ i, (l i).toNat < 81)
    {ι : Type} (S : Finset ι) (n : Fin 5000) (hn : ¬ n.val < 4992) (a b : Fin 28) (q : Ideal .f32) :
    Ideal.div 1 (1 + Ideal.exp (-Scalar.select
      (S.fold IntOp.andi (1#1) (fun _ =>
        IntOp.andi
          (IntOp.cmpi .sge
            (Scalar.select (IntOp.cmpi .slt (l (ix1 ⟨4992 + (n.val - 4992), by omega⟩)) 0#32)
              (IntOp.addi (l (ix1 ⟨4992 + (n.val - 4992), by omega⟩)) 81#32) (l (ix1 ⟨4992 + (n.val - 4992), by omega⟩))) 0#32)
          (IntOp.cmpi .sle
            (Scalar.select (IntOp.cmpi .slt (l (ix1 ⟨4992 + (n.val - 4992), by omega⟩)) 0#32)
              (IntOp.addi (l (ix1 ⟨4992 + (n.val - 4992), by omega⟩)) 81#32) (l (ix1 ⟨4992 + (n.val - 4992), by omega⟩))) 80#32)))
      (Host.gather dK (extractStridedSlice S8x81x28x28 ![4992, 0, 0, 0] x slices_S5000x81x28x28_S8x81x28x28_4992_0_0_0)
        (fun i : S8x1x1.Idx =>
          Scalar.select (IntOp.cmpi .slt (l (ix1 ⟨4992 + (i 0).val, by have : (i 0).val < 8 := (i 0).isLt; omega⟩)) 0#32)
            (IntOp.addi (l (ix1 ⟨4992 + (i 0).val, by have : (i 0).val < 8 := (i 0).isLt; omega⟩)) 81#32)
            (l (ix1 ⟨4992 + (i 0).val, by have : (i 0).val < 8 := (i 0).isLt; omega⟩)))
        (ix4 ⟨n.val - 4992, by omega⟩ 0 a b)) q)) = picked x l n a b := by
  have hw (i : S5000.Idx) : Scalar.select (IntOp.cmpi .slt (l i) 0#32) (IntOp.addi (l i) 81#32) (l i) = l i :=
    wrap_small _ _ (by have := hl i; omega)
  have hi (h : 4992 + (n.val - 4992) < 5000) : (⟨4992 + (n.val - 4992), h⟩ : Fin 5000) = n :=
    Fin.ext (Nat.add_sub_cancel' (Nat.le_of_not_lt hn))
  simp only [hw]
  rw [bit_one _ _ (hl _), tail_gather]
  pointwise
  refine picked_eq x l n a b _ _ ?_ ?_
  · exact congrArg Fin.val (hi _)
  · exact (clamp_small _ 80 (by decide) (by have := hl (ix1 ⟨4992 + (n.val - 4992), by omega⟩); omega)).trans
      (congrArg (fun k => (l (ix1 k)).toNat) (hi _))

/-- The program's result: the kernel's columns as rows, and the last eight rows at their labels. -/
theorem tail_at (V : Valuation τ sig (Elt Ideal))
    (hl : ∀ i, ((V (Proc.devRef .tc main_arg1) : IVec S5000 32) i).toNat < 81) (n : Fin 5000) (z : Fin 1) (a b : Fin 28) :
    (after tailOps V (Proc.devRef .tc main_v17) : FVec Ideal S5000x1x28x28 .f32) (ix4 n z a b)
      = if h : n.val < 4992 then
          (V (Proc.devRef .tc main_v2) : FVec Ideal S784x4992 .f32)
            (ix2 ⟨a.val * 28 + b.val, by have := a.isLt; have := b.isLt; omega⟩ ⟨n.val, h⟩)
        else picked (V (Proc.devRef .tc main_arg0)) (V (Proc.devRef .tc main_arg1)) n a b := by
  simp only [tailOps, rowOps, pickOps, endOps, List.cons_append, List.nil_append]
  after_reads_at
  after_reads_at
  split
  · rfl
  · rename_i hn
    exact last_row _ _ hl _ n hn a b _

/-! ## The kernel's columns -/

/-- Over the extended reals the kernel's sigmoid subtracts from zero where the reference negates. -/
theorem sg_ideal (v : Ideal .f32) : sg v = Ideal.div 1 (1 + Ideal.exp (-v)) := by
  rw [← zero_sub v]
  pointwise [sg]

variable (m : (ℓ : Loc nD τ sig) → Buf (Elt Ideal) ℓ)

/-- The kernel's result at a pixel's plane and a row's column. -/
theorem kernel_at (hL : LabelsOK m) (d : Dev nD) (n : Fin 5000) (h : n.val < 4992) (a b : Fin 28) :
    GD (XD m) (LD m) d (ix2 ⟨a.val * 28 + b.val, by omega⟩ ⟨n.val, h⟩ : S784x4992.Idx)
      = picked (m ((SparseCore.T d).loc main_arg0)) (LD m d) n a b := by
  have hlab : lIdx n.val = ix1 n := congrArg ix1 (Fin.ext (Nat.mod_eq_of_lt n.isLt))
  show sg (XD m d (xIdx (a.val * 28 + b.val) (LD m d (lIdx n.val)).toNat n.val)) = _
  have hx : xIdx (a.val * 28 + b.val) (LD m d (ix1 n)).toNat n.val
      = ix3 ⟨a.val * 28 + b.val, by omega⟩ ⟨(LD m d (ix1 n)).toNat, hL d _⟩ n :=
    congr (congrArg₂ ix3 (Fin.ext (Nat.mod_eq_of_lt (by omega))) (Fin.ext (Nat.mod_eq_of_lt (hL d _)))) (Fin.ext (Nat.mod_eq_of_lt n.isLt))
  have hv : XD m d (ix3 ⟨a.val * 28 + b.val, by omega⟩ ⟨(LD m d (ix1 n)).toNat, hL d _⟩ n)
      = m ((SparseCore.T d).loc main_arg0) (ix4 n ⟨(LD m d (ix1 n)).toNat, hL d _⟩ a b) := by
    refine (lay_at (V0 m d) _ _ _).trans ?_
    refine congrArg (m ((SparseCore.T d).loc main_arg0)) (congrArg₂ (ix4 n _) (Fin.ext ?_) (Fin.ext ?_))
    · show (a.val * 28 + b.val) / 28 = a.val; omega
    · show (a.val * 28 + b.val) % 28 = b.val; omega
  rw [hlab, sg_ideal, hx, hv]
  exact picked_eq (m ((SparseCore.T d).loc main_arg0)) (LD m d) n a b n _ rfl rfl

/-- The program's result, element by element. -/
theorem out_at (hL : LabelsOK m) (d : Dev nD) (n : Fin 5000) (z : Fin 1) (a b : Fin 28) :
    outVal m d (ix4 n z a b) = picked (m ((SparseCore.T d).loc main_arg0)) (m ((SparseCore.T d).loc main_arg1)) n a b := by
  refine (tail_at (V2 m d) (fun i => ?_) n z a b).trans ?_
  · exact (congrArg BitVec.toNat (congrFun (V2_l m d) i)).trans_lt (hL d i)
  · split
    · rename_i h
      exact (congrFun (V2_o m d) _).trans (kernel_at m hL d n h a b)
    · exact congrArg₂ (picked · · n a b) (V2_x m d) (V2_l m d)

end

/-! ## The equation -/

theorem algebraic : Cert.algebraic_KernelIdeal_ReferenceIdeal := by
  intro m g m' g' hpre hargs
  have hL := labelsOK m hpre
  refine ⟨outVal m, (θ_run Cert.KernelIdeal.defs _ _).mono (fun _ h c => ⟨(h.1 c).2.2, (h.1 c).1, (h.1 c).2.1⟩) (run_main m g hL),
    (θ_run Cert.ReferenceIdeal.defs _ _).mono (fun _ h c => ⟨(h c).1.trans ?_, (h c).2.1, (h c).2.2⟩)
      (Cert.ReferenceIdeal.Value.run (F := Ideal) m' g')⟩
  rw [(hargs c).1, (hargs c).2]
  show refVal (m ((SparseCore.T c).loc Cert.KernelIdeal.main_arg0)) (m ((SparseCore.T c).loc Cert.KernelIdeal.main_arg1)) = outVal m c
  funext i
  rw [eq_ix4 i]
  exact (refVal_at _ _ (fun j => hL c j) _ _ _ _).trans (out_at m hL c _ _ _ _).symm

end Cert.Proof

end
-- ==== Proof.lean ====
/-
  The certificate: the three programs end with their arguments untouched and their counters at zero, the kernel's two
  texts are one, and over the extended reals the kernel and the reference leave the same result.
-/
module

public import proofs.«01_k».proof.Defs
public import proofs.«01_k».proof.Proof.Gen.KernelIdeal
public import proofs.«01_k».proof.Proof.Result

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
